-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_in_range [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_rows_in_range [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_rows_in_range [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40_0) = v0 c
          ∧ r.2.mem ((c.tc : Thread Cert.ReferenceIdeal.nD Cert.ReferenceIdeal.τ).loc Cert.ReferenceIdeal.main_v40_1) = v1 c
          ∧ r.2.mem ((c.tc : Thread Cert.ReferenceIdeal.nD Cert.ReferenceIdeal.τ).loc Cert.ReferenceIdeal.main_v40_2) = v2 c
          ∧ r.2.mem ((c.tc : Thread Cert.ReferenceIdeal.nD Cert.ReferenceIdeal.τ).loc Cert.ReferenceIdeal.main_v40_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel)
    ∧ quiescent_KernelIdeal (hKernelIdeal := hKernelIdeal)
    ∧ quiescent_KernelIdeal_pre_rows_in_range (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal_pre_rows_in_range (hKernelIdeal := hKernelIdeal) (hReferenceIdeal := hReferenceIdeal) (hPre_rows_in_range := hPre_rows_in_range)
-- ==== Pre_rows_in_range.lean ====
abbrev S32x1x4096 : Shape := ⟨3, ![32, 1, 4096]⟩
abbrev S4096x14336 : Shape := ⟨2, ![4096, 14336]⟩
abbrev S14336 : Shape := ⟨1, ![14336]⟩
abbrev S14336x2048 : Shape := ⟨2, ![14336, 2048]⟩
abbrev S4096 : Shape := ⟨1, ![4096]⟩
abbrev S32x4096 : Shape := ⟨2, ![32, 4096]⟩
abbrev S_ : Shape := ⟨0, ![]⟩
abbrev S32 : Shape := ⟨1, ![32]⟩
abbrev S32x1 : Shape := ⟨2, ![32, 1]⟩

class Facts : Prop where
  shapeCasts_S32x1x4096_S32x4096 : S32x1x4096.ShapeCasts S32x4096
  bitsLt_bf16_f32 : FTy.bits .bf16 < FTy.bits .f32
  reducesTo_S32x4096_S32_d1 : S32x4096.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)

variable [Facts]

def fn {F : FTy → Type} [FloatOps F] (main_arg0 : FVec F S32x1x4096 .bf16) (main_arg1 : FVec F S4096x14336 .fp8e4m3) (main_arg2 : FVec F S14336 .f32) (main_arg3 : FVec F S14336 .f32) (main_arg4 : IVec S14336x2048 8) (main_arg5 : FVec F S4096 .f32) : IVec S32x1 1 :=
  let main_v0 : FVec F S32x4096 .bf16 := shapeCast S32x4096 main_arg0 shapeCasts_S32x1x4096_S32x4096
  let main_v1 : FVec F S32x4096 .f32 := (extf .f32 · bitsLt_bf16_f32) main_v0
  let main_v2 : FVec F S32x4096 .f32 := Host.absf main_v1
  let main_cst : FVec F S_ .f32 := constant S_ .f32 0xFF800000#32
  let main_v3 : FVec F S32 .f32 := (fun x v => Host.reduce FloatOps.maximumf x v reducesTo_S32x4096_S32_d1 h_S_) main_v2 main_cst
  let main_v4 : FVec F S32x1 .f32 := broadcastInDim S32x1 ![0] bcast_S32_S32x1_0 main_v3
  let main_cst_0 : FVec F S_ .f32 := constant S_ .f32 0x3B124925#32
  let main_v5 : FVec F S32x1 .f32 := broadcastInDim S32x1 ![] bcast_S_S32x1 main_cst_0
  let main_v6 : FVec F S32x1 .f32 := mulf main_v4 main_v5
  let main_cst_1 : FVec F S_ .f32 := constant S_ .f32 0x00800000#32
  let main_v7 : FVec F S32x1 .f32 := broadcastInDim S32x1 ![] bcast_S_S32x1 main_cst_1
  let main_v8 : IVec S32x1 1 := cmpf .oge main_v6 main_v7
  let main_cst_2 : FVec F S_ .f32 := constant S_ .f32 0x7F7F0000#32
  let main_v9 : FVec F S32x1 .f32 := broadcastInDim S32x1 ![] bcast_S_S32x1 main_cst_2
  let main_v10 : IVec S32x1 1 := cmpf .ole main_v4 main_v9
  let main_cst_3 : FVec F S_ .f32 := constant S_ .f32 0x00000000#32
  let main_v11 : FVec F S32x1 .f32 := broadcastInDim S32x1 ![] bcast_S_S32x1 main_cst_3
  let main_v12 : IVec S32x1 1 := cmpf .oeq main_v4 main_v11
  let main_v13 : IVec S32x1 1 := andi main_v8 main_v10
  let main_v14 : IVec S32x1 1 := ori main_v12 main_v13
  main_v14
-- ==== Kernel.lean ====
abbrev S32x1x4096 : Shape := ⟨3, ![32, 1, 4096]⟩
abbrev S4096x14336 : Shape := ⟨2, ![4096, 14336]⟩
abbrev S14336 : Shape := ⟨1, ![14336]⟩
abbrev S14336x2048 : Shape := ⟨2, ![14336, 2048]⟩
abbrev S4096 : Shape := ⟨1, ![4096]⟩
abbrev S32x4096 : Shape := ⟨2, ![32, 4096]⟩
abbrev S1x14336 : Shape := ⟨2, ![1, 14336]⟩
abbrev S1x4096 : Shape := ⟨2, ![1, 4096]⟩
abbrev S32x14336 : Shape := ⟨2, ![32, 14336]⟩
abbrev S32x128 : Shape := ⟨2, ![32, 128]⟩
abbrev S4096x512 : Shape := ⟨2, ![4096, 512]⟩
abbrev S512x2048 : Shape := ⟨2, ![512, 2048]⟩
abbrev S32x512 : Shape := ⟨2, ![32, 512]⟩
abbrev S32x2048 : Shape := ⟨2, ![32, 2048]⟩
abbrev S32 : Shape := ⟨1, ![32]⟩
abbrev S32x1 : Shape := ⟨2, ![32, 1]⟩
abbrev S32x256 : Shape := ⟨2, ![32, 256]⟩
abbrev S1x512 : Shape := ⟨2, ![1, 512]⟩
abbrev S32x128x1 : Shape := ⟨3, ![32, 128, 1]⟩
abbrev S1x128 : Shape := ⟨2, ![1, 128]⟩

abbrev nBuf : Space → Nat
  | .hbm => 14
  | .vmem => 15
  | .smem => 0
  | _ => 0

abbrev bufTy : (tb : Table) → Fin (tcTables nBuf tb) → BufTy
  | .hbm, ⟨0, _⟩ => ⟨S32x1x4096, .bf16⟩
  | .hbm, ⟨1, _⟩ => ⟨S4096x14336, .fp8e4m3⟩
  | .hbm, ⟨2, _⟩ => ⟨S14336, .f32⟩
  | .hbm, ⟨3, _⟩ => ⟨S14336, .f32⟩
  | .hbm, ⟨4, _⟩ => ⟨S14336x2048, .i8⟩
  | .hbm, ⟨5, _⟩ => ⟨S4096, .f32⟩
  | .hbm, ⟨6, _⟩ => ⟨S32x4096, .bf16⟩
  | .hbm, ⟨7, _⟩ => ⟨S1x14336, .f32⟩
  | .hbm, ⟨8, _⟩ => ⟨S1x14336, .f32⟩
  | .hbm, ⟨9, _⟩ => ⟨S1x4096, .f32⟩
  | .hbm, ⟨10, _⟩ => ⟨S32x4096, .bf16⟩
  | .hbm, ⟨11, _⟩ => ⟨S32x14336, .bf16⟩
  | .hbm, ⟨12, _⟩ => ⟨S32x4096, .fp8e4m3⟩
  | .hbm, ⟨13, _⟩ => ⟨S32x128, .f32⟩
  | .local _ .vmem, ⟨0, _⟩ => ⟨S32x4096, .bf16⟩
  | .local _ .vmem, ⟨1, _⟩ => ⟨S4096x512, .fp8e4m3⟩
  | .local _ .vmem, ⟨2, _⟩ => ⟨S4096x512, .fp8e4m3⟩
  | .local _ .vmem, ⟨3, _⟩ => ⟨S1x14336, .f32⟩
  | .local _ .vmem, ⟨4, _⟩ => ⟨S1x14336, .f32⟩
  | .local _ .vmem, ⟨5, _⟩ => ⟨S512x2048, .i8⟩
  | .local _ .vmem, ⟨6, _⟩ => ⟨S512x2048, .i8⟩
  | .local _ .vmem, ⟨7, _⟩ => ⟨S1x4096, .f32⟩
  | .local _ .vmem, ⟨8, _⟩ => ⟨S32x4096, .bf16⟩
  | .local _ .vmem, ⟨9, _⟩ => ⟨S32x512, .bf16⟩
  | .local _ .vmem, ⟨10, _⟩ => ⟨S32x512, .bf16⟩
  | .local _ .vmem, ⟨11, _⟩ => ⟨S32x4096, .fp8e4m3⟩
  | .local _ .vmem, ⟨12, _⟩ => ⟨S32x128, .f32⟩
  | .local _ .vmem, ⟨13, _⟩ => ⟨S32x2048, .f32⟩
  | .local _ .vmem, ⟨14, _⟩ => ⟨S32x2048, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![28], ![false]⟩

def k0_mult1 (i : grid0.Coords) : BitVec 32 :=
  let arg0 : BitVec 32 := BitVec.ofNat 32 (i 0).val
  let c512_i32 : BitVec 32 := 512#32
  let v7 : BitVec 32 := Scalar.muli arg0 c512_i32
  v7
def k0_off1 (i : grid0.Coords) : Fin 2 → Nat :=
  let c0_6 : Index := 0#32
  let arg0 : BitVec 32 := BitVec.ofNat 32 (i 0).val
  let c512_i32 : BitVec 32 := 512#32
  let v7 : BitVec 32 := Scalar.muli arg0 c512_i32
  let v8 : BitVec 32 := v7
  let v13 : Index := Scalar.indexCast v8
  ![0, v13.toNat]
def k0_cond2 (i : grid0.Coords) : BitVec 1 :=
  let arg0 : BitVec 32 := BitVec.ofNat 32 (i 0).val
  let c27_i32 : BitVec 32 := 27#32
  let v51 : BitVec 1 := Scalar.cmpi .eq arg0 c27_i32
  let v52 : BitVec 32 := Scalar.extui v51
  let c0_i32_25 : BitVec 32 := 0#32
  let v53 : BitVec 1 := Scalar.cmpi .ne v52 c0_i32_25
  v53

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S32x1x4096 : Shape := ⟨3, ![32, 1, 4096]⟩
abbrev S4096x14336 : Shape := ⟨2, ![4096, 14336]⟩
abbrev S14336 : Shape := ⟨1, ![14336]⟩
abbrev S14336x2048 : Shape := ⟨2, ![14336, 2048]⟩
abbrev S4096 : Shape := ⟨1, ![4096]⟩
abbrev S32x4096 : Shape := ⟨2, ![32, 4096]⟩
abbrev S_ : Shape := ⟨0, ![]⟩
abbrev S32 : Shape := ⟨1, ![32]⟩
abbrev S32x1 : Shape := ⟨2, ![32, 1]⟩
abbrev S14336x2048x1 : Shape := ⟨3, ![14336, 2048, 1]⟩
abbrev S14336x2048x2 : Shape := ⟨3, ![14336, 2048, 2]⟩
abbrev S14336x4096 : Shape := ⟨2, ![14336, 4096]⟩
abbrev S1x14336 : Shape := ⟨2, ![1, 14336]⟩
abbrev S1x4096 : Shape := ⟨2, ![1, 4096]⟩
abbrev S32x14336 : Shape := ⟨2, ![32, 14336]⟩
abbrev S32x128 : Shape := ⟨2, ![32, 128]⟩

abbrev nBuf : Space → Nat
  | .hbm => 64
  | .vmem => 11
  | .smem => 0
  | _ => 0

abbrev bufTy : (tb : Table) → Fin (tcTables nBuf tb) → BufTy
  | .hbm, ⟨0, _⟩ => ⟨S32x1x4096, .bf16⟩
  | .hbm, ⟨1, _⟩ => ⟨S4096x14336, .fp8e4m3⟩
  | .hbm, ⟨2, _⟩ => ⟨S14336, .f32⟩
  | .hbm, ⟨3, _⟩ => ⟨S14336, .f32⟩
  | .hbm, ⟨4, _⟩ => ⟨S14336x2048, .i8⟩
  | .hbm, ⟨5, _⟩ => ⟨S4096, .f32⟩
  | .hbm, ⟨6, _⟩ => ⟨S32x4096, .bf16⟩
  | .hbm, ⟨7, _⟩ => ⟨S32x4096, .f32⟩
  | .hbm, ⟨8, _⟩ => ⟨S32x4096, .f32⟩
  | .hbm, ⟨9, _⟩ => ⟨S_, .f32⟩
  | .hbm, ⟨10, _⟩ => ⟨S32, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S_, .f32⟩
  | .hbm, ⟨21, _⟩ => ⟨S32x1, .f32⟩
  | .hbm, ⟨22, _⟩ => ⟨S32x1, .i1⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S_, .f32⟩
  | .hbm, ⟨28, _⟩ => ⟨S_, .f32⟩
  | .hbm, ⟨29, _⟩ => ⟨S32x1, .f32⟩
  | .hbm, ⟨30, _⟩ => ⟨S32x1, .f32⟩
  | .hbm, ⟨31, _⟩ => ⟨S14336x2048, .i32⟩
  | .hbm, ⟨32, _⟩ => ⟨S_, .i32⟩
  | .hbm, ⟨33, _⟩ => ⟨S14336x2048, .i32⟩
  | .hbm, ⟨34, _⟩ => ⟨S14336x2048, .i32⟩
  | .hbm, ⟨35, _⟩ => ⟨S_, .i32⟩
  | .hbm, ⟨36, _⟩ => ⟨S14336x2048, .i32⟩
  | .hbm, ⟨37, _⟩ => ⟨S14336x2048, .i1⟩
  | .hbm, ⟨38, _⟩ => ⟨S_, .i32⟩
  | .hbm, ⟨39, _⟩ => ⟨S14336x2048, .i32⟩
  | .hbm, ⟨40, _⟩ => ⟨S14336x2048, .i32⟩
  | .hbm, ⟨41, _⟩ => ⟨S14336x2048, .i32⟩
  | .hbm, ⟨42, _⟩ => ⟨S_, .i32⟩
  | .hbm, ⟨43, _⟩ => ⟨S14336x2048, .i32⟩
  | .hbm, ⟨44, _⟩ => ⟨S14336x2048, .i32⟩
  | .hbm, ⟨45, _⟩ => ⟨S_, .i32⟩
  | .hbm, ⟨46, _⟩ => ⟨S14336x2048, .i32⟩
  | .hbm, ⟨47, _⟩ => ⟨S14336x2048, .i1⟩
  | .hbm, ⟨48, _⟩ => ⟨S_, .i32⟩
  | .hbm, ⟨49, _⟩ => ⟨S14336x2048, .i32⟩
  | .hbm, ⟨50, _⟩ => ⟨S14336x2048, .i32⟩
  | .hbm, ⟨51, _⟩ => ⟨S14336x2048, .i32⟩
  | .hbm, ⟨52, _⟩ => ⟨S14336x2048x1, .i32⟩
  | .hbm, ⟨53, _⟩ => ⟨S14336x2048x1, .i32⟩
  | .hbm, ⟨54, _⟩ => ⟨S14336x2048x2, .i32⟩
  | .hbm, ⟨55, _⟩ => ⟨S14336x4096, .i32⟩
  | .hbm, ⟨56, _⟩ => ⟨S32x4096, .bf16⟩
  | .hbm, ⟨57, _⟩ => ⟨S1x14336, .f32⟩
  | .hbm, ⟨58, _⟩ => ⟨S1x14336, .f32⟩
  | .hbm, ⟨59, _⟩ => ⟨S1x4096, .f32⟩
  | .hbm, ⟨60, _⟩ => ⟨S32x4096, .bf16⟩
  | .hbm, ⟨61, _⟩ => ⟨S32x14336, .bf16⟩
  | .hbm, ⟨62, _⟩ => ⟨S32x4096, .fp8e4m3⟩
  | .hbm, ⟨63, _⟩ => ⟨S32x128, .f32⟩
  | .local _ .vmem, ⟨0, _⟩ => ⟨S32x4096, .bf16⟩
  | .local _ .vmem, ⟨1, _⟩ => ⟨S32x1, .f32⟩
  | .local _ .vmem, ⟨2, _⟩ => ⟨S4096x14336, .fp8e4m3⟩
  | .local _ .vmem, ⟨3, _⟩ => ⟨S1x14336, .f32⟩
  | .local _ .vmem, ⟨4, _⟩ => ⟨S1x14336, .f32⟩
  | .local _ .vmem, ⟨5, _⟩ => ⟨S14336x4096, .i32⟩
  | .local _ .vmem, ⟨6, _⟩ => ⟨S1x4096, .f32⟩
  | .local _ .vmem, ⟨7, _⟩ => ⟨S32x4096, .bf16⟩
  | .local _ .vmem, ⟨8, _⟩ => ⟨S32x14336, .bf16⟩
  | .local _ .vmem, ⟨9, _⟩ => ⟨S32x4096, .fp8e4m3⟩
  | .local _ .vmem, ⟨10, _⟩ => ⟨S32x128, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_7 : Ref sig .tc := ⟨.hbm, 42, rfl⟩
abbrev main_v25 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev main_v40_3 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x14336 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x14336 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Blocks.lean ====
module

public import proofs.«01_k».proof.Proof.Gen.Kernel.Frame
public import proofs.«01_k».proof.Proof.Gen.Kernel.Skeleton
public import Idealize.ShloMosaic.Lib.VecWindow
public import Idealize.ShloMosaic.Lib.Ring

@[expose] public section

set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one grid step leaves in each buffer, as functions of what it finds -/

/-- The row scales, read from the first lane of their lane-wide broadcast. -/
def scaleCol (xs : Vec F S32x128 .f32) : Vec F S32x1 .f32 :=
  View.ld xs (Rect.unit (s := S32x128) ![0, 0] S32x1.size inb_S32x128_S32x1_0_0)

/-- Step `i`'s 512 lanes of a row vector over the hidden axis. -/
def laneBlock (i : grid0.Coords) (x : Vec F S1x14336 .f32) : Vec F S1x512 .f32 :=
  View.ld x (Rect.unit (s := S1x14336) (k0_off1 i) S1x512.size (k0_off1_inb i))

/-- The block of `h` that step `i` stores: codes against the weight block, scaled, biased, rectified. -/
def hBlock (i : grid0.Coords) (xc : Vec F S32x4096 .fp8e4m3) (xs : Vec F S32x128 .f32) (x1 : Vec F S4096x512 .fp8e4m3)
    (x2 x3 : Vec F S1x14336 .f32) : Vec F S32x512 .bf16 :=
  k0_pay163 xc x1 (scaleCol xs) (laneBlock i x2) (laneBlock i x3)

/-- The codes the first step stores. -/
def codesOf (x0 : Vec F S32x4096 .bf16) : Vec F S32x4096 .fp8e4m3 := k0_pay6 x0

/-- The scales the first step stores, one per row in every lane. -/
def scalesOf (x0 : Vec F S32x4096 .bf16) : Vec F S32x128 .f32 := k0_pay160 (k0_pay5 x0)

/-- The even-column accumulator after a step that found `ae` in it. -/
def evenStep (h : Vec F S32x512 .bf16) (x4 : Vec F S512x2048 .i8) (ae : Vec F S32x2048 .f32) : Vec F S32x2048 .f32 :=
  k0_pay1 h (k0_pay165 x4) ae

/-- The odd-column accumulator after a step that found `ao` in it. -/
def oddStep (h : Vec F S32x512 .bf16) (x4 : Vec F S512x2048 .i8) (ao : Vec F S32x2048 .f32) : Vec F S32x2048 .f32 :=
  k0_pay2 h (k0_pay166 x4) 28#32 ao

/-! ## Reading back a buffer stored whole -/

/-- A load of any rectangle after one store of the whole buffer reads the stored array there. -/
theorem readCov_whole {sg : RefSig} {κ : Kind} {sp : Space} {s : Shape} {e : EltTy} (v : View sg κ sp s e) {off : Fin s.rank → ℕ}
    (inb : ∀ a, off a + s.size a ≤ s.size a) (w : s.Idx → Elt F e) (L : List (View.Piece (Elt F) s e)) (r : Rect s) :
    v.readCov (⟨Rect.unit off s.size inb, w⟩ :: L) r.toLoadRect = View.ld w r :=
  congrArg (fun z : s.Idx → Elt F e => View.ld z r) (View.read_writes_full v v.junk inb w L)

/-- A load of any rectangle of a buffer that holds `x`. -/
theorem readAt_held {sg : RefSig} {κ : Kind} {sp : Space} {s : Shape} {e : EltTy} (a : Memref sg κ sp s e) (ha : a.IsWhole)
    (x : s.Idx → Elt F e) (r : Rect s) : a.view.readAt (Elt F) r.toLoadRect (ha.unread x) = View.ld x r :=
  congrArg (fun z : s.Idx → Elt F e => View.ld z r) (ha.read_unread x)

/-- A rectangle of the whole shape loads everything. -/
theorem ld_whole {s : Shape} {e : EltTy} (x : s.Idx → Elt F e) {off : Fin s.rank → ℕ} (inb : ∀ a, off a + s.size a ≤ s.size a) :
    View.ld x (Rect.unit off s.size inb) = x :=
  funext fun z => congrArg x (Rect.emb_unit_full inb z)

theorem ld_S32x4096 (x : S32x4096.Idx → Elt F .fp8e4m3) (inb : ∀ a, (![0, 0] : Fin 2 → ℕ) a + (![32, 4096] : Fin 2 → ℕ) a ≤ S32x4096.size a) :
    View.ld x (Rect.unit (s := S32x4096) ![0, 0] ![32, 4096] inb) = x := ld_whole x inb

theorem ld_S4096x512 (x : S4096x512.Idx → Elt F .fp8e4m3) (inb : ∀ a, (![0, 0] : Fin 2 → ℕ) a + (![4096, 512] : Fin 2 → ℕ) a ≤ S4096x512.size a) :
    View.ld x (Rect.unit (s := S4096x512) ![0, 0] ![4096, 512] inb) = x := ld_whole x inb

theorem ld_S512x2048 (x : S512x2048.Idx → Elt F .i8) (inb : ∀ a, (![0, 0] : Fin 2 → ℕ) a + (![512, 2048] : Fin 2 → ℕ) a ≤ S512x2048.size a) :
    View.ld x (Rect.unit (s := S512x2048) ![0, 0] ![512, 2048] inb) = x := ld_whole x inb

theorem ld_S32x2048 (x : S32x2048.Idx → Elt F .f32) (inb : ∀ a, (![0, 0] : Fin 2 → ℕ) a + (![32, 2048] : Fin 2 → ℕ) a ≤ S32x2048.size a) :
    View.ld x (Rect.unit (s := S32x2048) ![0, 0] ![32, 2048] inb) = x := ld_whole x inb

theorem ld_S32x128 (x : S32x128.Idx → Elt F .f32) (inb : ∀ a, (![0, 0] : Fin 2 → ℕ) a + (![32, 128] : Fin 2 → ℕ) a ≤ S32x128.size a) :
    View.ld x (Rect.unit (s := S32x128) ![0, 0] ![32, 128] inb) = x := ld_whole x inb

theorem ld_x (x : S32x4096.Idx → Elt F .bf16) (inb : ∀ a, (![0, 0] : Fin 2 → ℕ) a + (![32, 4096] : Fin 2 → ℕ) a ≤ S32x4096.size a) :
    View.ld x (Rect.unit (s := S32x4096) ![0, 0] ![32, 4096] inb) = x := ld_whole x inb

theorem readCov_S32x4096 {sg : RefSig} {κ : Kind} {sp : Space} (v : View sg κ sp S32x4096 .fp8e4m3) (w : S32x4096.Idx → Elt F .fp8e4m3) (L : List (View.Piece (Elt F) S32x4096 .fp8e4m3)) (r : Rect S32x4096)
    (inb : ∀ a, (![0, 0] : Fin 2 → ℕ) a + (![32, 4096] : Fin 2 → ℕ) a ≤ S32x4096.size a) :
    v.readCov (⟨Rect.unit (s := S32x4096) ![0, 0] ![32, 4096] inb, w⟩ :: L) r.toLoadRect = View.ld w r := readCov_whole v inb w L r

theorem readCov_S32x2048 {sg : RefSig} {κ : Kind} {sp : Space} (v : View sg κ sp S32x2048 .f32) (w : S32x2048.Idx → Elt F .f32) (L : List (View.Piece (Elt F) S32x2048 .f32)) (r : Rect S32x2048)
    (inb : ∀ a, (![0, 0] : Fin 2 → ℕ) a + (![32, 2048] : Fin 2 → ℕ) a ≤ S32x2048.size a) :
    v.readCov (⟨Rect.unit (s := S32x2048) ![0, 0] ![32, 2048] inb, w⟩ :: L) r.toLoadRect = View.ld w r := readCov_whole v inb w L r

theorem readCov_S32x128 {sg : RefSig} {κ : Kind} {sp : Space} (v : View sg κ sp S32x128 .f32) (w : S32x128.Idx → Elt F .f32) (L : List (View.Piece (Elt F) S32x128 .f32)) (r : Rect S32x128)
    (inb : ∀ a, (![0, 0] : Fin 2 → ℕ) a + (![32, 128] : Fin 2 → ℕ) a ≤ S32x128.size a) :
    v.readCov (⟨Rect.unit (s := S32x128) ![0, 0] ![32, 128] inb, w⟩ :: L) r.toLoadRect = View.ld w r := readCov_whole v inb w L r

/-! ## The last step's output tiles -/

/-- The lane numbers of a 128-lane tile. -/
def lanes : IVec S32x128 32 := iota .tc S32x128 32 [1] iota_S32x128_d1_w32

/-- The lane an output lane takes its value from: half its own number, plus `off`. -/
def sourceLane (off : BitVec 32) : IVec S32x128 32 :=
  have d : IVec S32x128 32 := divsi lanes (broadcast S32x128 2#32)
  have sgn : IVec S32x128 32 := subi (extui 32 (cmpi .sgt lanes (broadcast S32x128 0#32)) natLt_1_32) (extui 32 (cmpi .slt lanes (broadcast S32x128 0#32)) natLt_1_32)
  have one : BitVec 32 := Scalar.subi (Scalar.extui (Scalar.cmpi .sgt 2#32 0#32)) (Scalar.extui (Scalar.cmpi .slt 2#32 0#32))
  have low : IVec S32x128 1 := andi (cmpi .ne sgn (broadcast S32x128 one)) (cmpi .ne (remsi lanes (broadcast S32x128 2#32)) (broadcast S32x128 0#32))
  addi (select low (subi d (broadcast S32x128 1#32)) d) (broadcast S32x128 off)

/-- Whether an output lane is even. -/
def evenLane : IVec S32x128 1 :=
  have two : BitVec 32 := Scalar.select (Scalar.cmpi .eq 2#32 0#32) 1#32 2#32
  have r : IVec S32x128 32 := remsi lanes (broadcast S32x128 two)
  have neg : IVec S32x128 1 := andi (xori (cmpi .slt r (broadcast S32x128 0#32)) (broadcastTo S32x128 (broadcast S32x128 (Scalar.cmpi .slt two 0#32)) broadcasts_S32x128_S32x128)) (cmpi .ne r (broadcast S32x128 0#32))
  cmpi .eq (select neg (addi r (broadcast S32x128 two)) r) (broadcast S32x128 0#32)

/-- A gather along the lanes by the numbers `n`, a negative one counted from the end. -/
def takeLanes (x : Vec F S32x128 .f32) (n : IVec S32x128 32) : FVec F S32x128 .f32 :=
  dynamicGather 1 x (shapeCast S32x128 (shapeCast S32x128x1 (select (cmpi .slt n (broadcast S32x128 0#32)) (addi n (broadcast S32x128 128#32)) n) shapeCasts_S32x128_S32x128x1) shapeCasts_S32x128x1_S32x128)

/-- One 128-lane tile of `y`: even and odd columns interleaved, scaled by the column scales. -/
def yTile (off : BitVec 32) (ev od : Vec F S32x128 .f32) (sd : Vec F S1x128 .f32) : FVec F S32x128 .bf16 :=
  truncf .bf16 (mulf (select evenLane (takeLanes ev (sourceLane off)) (takeLanes od (sourceLane off)))
    (broadcastTo S32x128 (shapeCast S1x128 sd shapeCasts_S1x128_S1x128) broadcasts_S1x128_S32x128)) bitsLt_bf16_f32

/-- The 32 stores of the last step, last first. -/
def yPieces (ae ao : Vec F S32x2048 .f32) (sd : Vec F S1x4096 .f32) : List (View.Piece (Elt F) S32x4096 .bf16) :=
  [⟨Rect.unit (s := S32x4096) ![0, 3968] S32x128.size inb_S32x4096_S32x128_0_3968, yTile 64#32 (View.ld ae (Rect.unit (s := S32x2048) ![0, 1920] S32x128.size inb_S32x2048_S32x128_0_1920)) (View.ld ao (Rect.unit (s := S32x2048) ![0, 1920] S32x128.size inb_S32x2048_S32x128_0_1920)) (View.ld sd (Rect.unit (s := S1x4096) ![0, 3968] S1x128.size inb_S1x4096_S1x128_0_3968))⟩,
   ⟨Rect.unit (s := S32x4096) ![0, 3840] S32x128.size inb_S32x4096_S32x128_0_3840, yTile 0#32 (View.ld ae (Rect.unit (s := S32x2048) ![0, 1920] S32x128.size inb_S32x2048_S32x128_0_1920)) (View.ld ao (Rect.unit (s := S32x2048) ![0, 1920] S32x128.size inb_S32x2048_S32x128_0_1920)) (View.ld sd (Rect.unit (s := S1x4096) ![0, 3840] S1x128.size inb_S1x4096_S1x128_0_3840))⟩,
   ⟨Rect.unit (s := S32x4096) ![0, 3712] S32x128.size inb_S32x4096_S32x128_0_3712, yTile 64#32 (View.ld ae (Rect.unit (s := S32x2048) ![0, 1792] S32x128.size inb_S32x2048_S32x128_0_1792)) (View.ld ao (Rect.unit (s := S32x2048) ![0, 1792] S32x128.size inb_S32x2048_S32x128_0_1792)) (View.ld sd (Rect.unit (s := S1x4096) ![0, 3712] S1x128.size inb_S1x4096_S1x128_0_3712))⟩,
   ⟨Rect.unit (s := S32x4096) ![0, 3584] S32x128.size inb_S32x4096_S32x128_0_3584, yTile 0#32 (View.ld ae (Rect.unit (s := S32x2048) ![0, 1792] S32x128.size inb_S32x2048_S32x128_0_1792)) (View.ld ao (Rect.unit (s := S32x2048) ![0, 1792] S32x128.size inb_S32x2048_S32x128_0_1792)) (View.ld sd (Rect.unit (s := S1x4096) ![0, 3584] S1x128.size inb_S1x4096_S1x128_0_3584))⟩,
   ⟨Rect.unit (s := S32x4096) ![0, 3456] S32x128.size inb_S32x4096_S32x128_0_3456, yTile 64#32 (View.ld ae (Rect.unit (s := S32x2048) ![0, 1664] S32x128.size inb_S32x2048_S32x128_0_1664)) (View.ld ao (Rect.unit (s := S32x2048) ![0, 1664] S32x128.size inb_S32x2048_S32x128_0_1664)) (View.ld sd (Rect.unit (s := S1x4096) ![0, 3456] S1x128.size inb_S1x4096_S1x128_0_3456))⟩,
   ⟨Rect.unit (s := S32x4096) ![0, 3328] S32x128.size inb_S32x4096_S32x128_0_3328, yTile 0#32 (View.ld ae (Rect.unit (s := S32x2048) ![0, 1664] S32x128.size inb_S32x2048_S32x128_0_1664)) (View.ld ao (Rect.unit (s := S32x2048) ![0, 1664] S32x128.size inb_S32x2048_S32x128_0_1664)) (View.ld sd (Rect.unit (s := S1x4096) ![0, 3328] S1x128.size inb_S1x4096_S1x128_0_3328))⟩,
   ⟨Rect.unit (s := S32x4096) ![0, 3200] S32x128.size inb_S32x4096_S32x128_0_3200, yTile 64#32 (View.ld ae (Rect.unit (s := S32x2048) ![0, 1536] S32x128.size inb_S32x2048_S32x128_0_1536)) (View.ld ao (Rect.unit (s := S32x2048) ![0, 1536] S32x128.size inb_S32x2048_S32x128_0_1536)) (View.ld sd (Rect.unit (s := S1x4096) ![0, 3200] S1x128.size inb_S1x4096_S1x128_0_3200))⟩,
   ⟨Rect.unit (s := S32x4096) ![0, 3072] S32x128.size inb_S32x4096_S32x128_0_3072, yTile 0#32 (View.ld ae (Rect.unit (s := S32x2048) ![0, 1536] S32x128.size inb_S32x2048_S32x128_0_1536)) (View.ld ao (Rect.unit (s := S32x2048) ![0, 1536] S32x128.size inb_S32x2048_S32x128_0_1536)) (View.ld sd (Rect.unit (s := S1x4096) ![0, 3072] S1x128.size inb_S1x4096_S1x128_0_3072))⟩,
   ⟨Rect.unit (s := S32x4096) ![0, 2944] S32x128.size inb_S32x4096_S32x128_0_2944, yTile 64#32 (View.ld ae (Rect.unit (s := S32x2048) ![0, 1408] S32x128.size inb_S32x2048_S32x128_0_1408)) (View.ld ao (Rect.unit (s := S32x2048) ![0, 1408] S32x128.size inb_S32x2048_S32x128_0_1408)) (View.ld sd (Rect.unit (s := S1x4096) ![0, 2944] S1x128.size inb_S1x4096_S1x128_0_2944))⟩,
   ⟨Rect.unit (s := S32x4096) ![0, 2816] S32x128.size inb_S32x4096_S32x128_0_2816, yTile 0#32 (View.ld ae (Rect.unit (s := S32x2048) ![0, 1408] S32x128.size inb_S32x2048_S32x128_0_1408)) (View.ld ao (Rect.unit (s := S32x2048) ![0, 1408] S32x128.size inb_S32x2048_S32x128_0_1408)) (View.ld sd (Rect.unit (s := S1x4096) ![0, 2816] S1x128.size inb_S1x4096_S1x128_0_2816))⟩,
   ⟨Rect.unit (s := S32x4096) ![0, 2688] S32x128.size inb_S32x4096_S32x128_0_2688, yTile 64#32 (View.ld ae (Rect.unit (s := S32x2048) ![0, 1280] S32x128.size inb_S32x2048_S32x128_0_1280)) (View.ld ao (Rect.unit (s := S32x2048) ![0, 1280] S32x128.size inb_S32x2048_S32x128_0_1280)) (View.ld sd (Rect.unit (s := S1x4096) ![0, 2688] S1x128.size inb_S1x4096_S1x128_0_2688))⟩,
   ⟨Rect.unit (s := S32x4096) ![0, 2560] S32x128.size inb_S32x4096_S32x128_0_2560, yTile 0#32 (View.ld ae (Rect.unit (s := S32x2048) ![0, 1280] S32x128.size inb_S32x2048_S32x128_0_1280)) (View.ld ao (Rect.unit (s := S32x2048) ![0, 1280] S32x128.size inb_S32x2048_S32x128_0_1280)) (View.ld sd (Rect.unit (s := S1x4096) ![0, 2560] S1x128.size inb_S1x4096_S1x128_0_2560))⟩,
   ⟨Rect.unit (s := S32x4096) ![0, 2432] S32x128.size inb_S32x4096_S32x128_0_2432, yTile 64#32 (View.ld ae (Rect.unit (s := S32x2048) ![0, 1152] S32x128.size inb_S32x2048_S32x128_0_1152)) (View.ld ao (Rect.unit (s := S32x2048) ![0, 1152] S32x128.size inb_S32x2048_S32x128_0_1152)) (View.ld sd (Rect.unit (s := S1x4096) ![0, 2432] S1x128.size inb_S1x4096_S1x128_0_2432))⟩,
   ⟨Rect.unit (s := S32x4096) ![0, 2304] S32x128.size inb_S32x4096_S32x128_0_2304, yTile 0#32 (View.ld ae (Rect.unit (s := S32x2048) ![0, 1152] S32x128.size inb_S32x2048_S32x128_0_1152)) (View.ld ao (Rect.unit (s := S32x2048) ![0, 1152] S32x128.size inb_S32x2048_S32x128_0_1152)) (View.ld sd (Rect.unit (s := S1x4096) ![0, 2304] S1x128.size inb_S1x4096_S1x128_0_2304))⟩,
   ⟨Rect.unit (s := S32x4096) ![0, 2176] S32x128.size inb_S32x4096_S32x128_0_2176, yTile 64#32 (View.ld ae (Rect.unit (s := S32x2048) ![0, 1024] S32x128.size inb_S32x2048_S32x128_0_1024)) (View.ld ao (Rect.unit (s := S32x2048) ![0, 1024] S32x128.size inb_S32x2048_S32x128_0_1024)) (View.ld sd (Rect.unit (s := S1x4096) ![0, 2176] S1x128.size inb_S1x4096_S1x128_0_2176))⟩,
   ⟨Rect.unit (s := S32x4096) ![0, 2048] S32x128.size inb_S32x4096_S32x128_0_2048, yTile 0#32 (View.ld ae (Rect.unit (s := S32x2048) ![0, 1024] S32x128.size inb_S32x2048_S32x128_0_1024)) (View.ld ao (Rect.unit (s := S32x2048) ![0, 1024] S32x128.size inb_S32x2048_S32x128_0_1024)) (View.ld sd (Rect.unit (s := S1x4096) ![0, 2048] S1x128.size inb_S1x4096_S1x128_0_2048))⟩,
   ⟨Rect.unit (s := S32x4096) ![0, 1920] S32x128.size inb_S32x4096_S32x128_0_1920, yTile 64#32 (View.ld ae (Rect.unit (s := S32x2048) ![0, 896] S32x128.size inb_S32x2048_S32x128_0_896)) (View.ld ao (Rect.unit (s := S32x2048) ![0, 896] S32x128.size inb_S32x2048_S32x128_0_896)) (View.ld sd (Rect.unit (s := S1x4096) ![0, 1920] S1x128.size inb_S1x4096_S1x128_0_1920))⟩,
   ⟨Rect.unit (s := S32x4096) ![0, 1792] S32x128.size inb_S32x4096_S32x128_0_1792, yTile 0#32 (View.ld ae (Rect.unit (s := S32x2048) ![0, 896] S32x128.size inb_S32x2048_S32x128_0_896)) (View.ld ao (Rect.unit (s := S32x2048) ![0, 896] S32x128.size inb_S32x2048_S32x128_0_896)) (View.ld sd (Rect.unit (s := S1x4096) ![0, 1792] S1x128.size inb_S1x4096_S1x128_0_1792))⟩,
   ⟨Rect.unit (s := S32x4096) ![0, 1664] S32x128.size inb_S32x4096_S32x128_0_1664, yTile 64#32 (View.ld ae (Rect.unit (s := S32x2048) ![0, 768] S32x128.size inb_S32x2048_S32x128_0_768)) (View.ld ao (Rect.unit (s := S32x2048) ![0, 768] S32x128.size inb_S32x2048_S32x128_0_768)) (View.ld sd (Rect.unit (s := S1x4096) ![0, 1664] S1x128.size inb_S1x4096_S1x128_0_1664))⟩,
   ⟨Rect.unit (s := S32x4096) ![0, 1536] S32x128.size inb_S32x4096_S32x128_0_1536, yTile 0#32 (View.ld ae (Rect.unit (s := S32x2048) ![0, 768] S32x128.size inb_S32x2048_S32x128_0_768)) (View.ld ao (Rect.unit (s := S32x2048) ![0, 768] S32x128.size inb_S32x2048_S32x128_0_768)) (View.ld sd (Rect.unit (s := S1x4096) ![0, 1536] S1x128.size inb_S1x4096_S1x128_0_1536))⟩,
   ⟨Rect.unit (s := S32x4096) ![0, 1408] S32x128.size inb_S32x4096_S32x128_0_1408, yTile 64#32 (View.ld ae (Rect.unit (s := S32x2048) ![0, 640] S32x128.size inb_S32x2048_S32x128_0_640)) (View.ld ao (Rect.unit (s := S32x2048) ![0, 640] S32x128.size inb_S32x2048_S32x128_0_640)) (View.ld sd (Rect.unit (s := S1x4096) ![0, 1408] S1x128.size inb_S1x4096_S1x128_0_1408))⟩,
   ⟨Rect.unit (s := S32x4096) ![0, 1280] S32x128.size inb_S32x4096_S32x128_0_1280, yTile 0#32 (View.ld ae (Rect.unit (s := S32x2048) ![0, 640] S32x128.size inb_S32x2048_S32x128_0_640)) (View.ld ao (Rect.unit (s := S32x2048) ![0, 640] S32x128.size inb_S32x2048_S32x128_0_640)) (View.ld sd (Rect.unit (s := S1x4096) ![0, 1280] S1x128.size inb_S1x4096_S1x128_0_1280))⟩,
   ⟨Rect.unit (s := S32x4096) ![0, 1152] S32x128.size inb_S32x4096_S32x128_0_1152, yTile 64#32 (View.ld ae (Rect.unit (s := S32x2048) ![0, 512] S32x128.size inb_S32x2048_S32x128_0_512)) (View.ld ao (Rect.unit (s := S32x2048) ![0, 512] S32x128.size inb_S32x2048_S32x128_0_512)) (View.ld sd (Rect.unit (s := S1x4096) ![0, 1152] S1x128.size inb_S1x4096_S1x128_0_1152))⟩,
   ⟨Rect.unit (s := S32x4096) ![0, 1024] S32x128.size inb_S32x4096_S32x128_0_1024, yTile 0#32 (View.ld ae (Rect.unit (s := S32x2048) ![0, 512] S32x128.size inb_S32x2048_S32x128_0_512)) (View.ld ao (Rect.unit (s := S32x2048) ![0, 512] S32x128.size inb_S32x2048_S32x128_0_512)) (View.ld sd (Rect.unit (s := S1x4096) ![0, 1024] S1x128.size inb_S1x4096_S1x128_0_1024))⟩,
   ⟨Rect.unit (s := S32x4096) ![0, 896] S32x128.size inb_S32x4096_S32x128_0_896, yTile 64#32 (View.ld ae (Rect.unit (s := S32x2048) ![0, 384] S32x128.size inb_S32x2048_S32x128_0_384)) (View.ld ao (Rect.unit (s := S32x2048) ![0, 384] S32x128.size inb_S32x2048_S32x128_0_384)) (View.ld sd (Rect.unit (s := S1x4096) ![0, 896] S1x128.size inb_S1x4096_S1x128_0_896))⟩,
   ⟨Rect.unit (s := S32x4096) ![0, 768] S32x128.size inb_S32x4096_S32x128_0_768, yTile 0#32 (View.ld ae (Rect.unit (s := S32x2048) ![0, 384] S32x128.size inb_S32x2048_S32x128_0_384)) (View.ld ao (Rect.unit (s := S32x2048) ![0, 384] S32x128.size inb_S32x2048_S32x128_0_384)) (View.ld sd (Rect.unit (s := S1x4096) ![0, 768] S1x128.size inb_S1x4096_S1x128_0_768))⟩,
   ⟨Rect.unit (s := S32x4096) ![0, 640] S32x128.size inb_S32x4096_S32x128_0_640, yTile 64#32 (View.ld ae (Rect.unit (s := S32x2048) ![0, 256] S32x128.size inb_S32x2048_S32x128_0_256)) (View.ld ao (Rect.unit (s := S32x2048) ![0, 256] S32x128.size inb_S32x2048_S32x128_0_256)) (View.ld sd (Rect.unit (s := S1x4096) ![0, 640] S1x128.size inb_S1x4096_S1x128_0_640))⟩,
   ⟨Rect.unit (s := S32x4096) ![0, 512] S32x128.size inb_S32x4096_S32x128_0_512, yTile 0#32 (View.ld ae (Rect.unit (s := S32x2048) ![0, 256] S32x128.size inb_S32x2048_S32x128_0_256)) (View.ld ao (Rect.unit (s := S32x2048) ![0, 256] S32x128.size inb_S32x2048_S32x128_0_256)) (View.ld sd (Rect.unit (s := S1x4096) ![0, 512] S1x128.size inb_S1x4096_S1x128_0_512))⟩,
   ⟨Rect.unit (s := S32x4096) ![0, 384] S32x128.size inb_S32x4096_S32x128_0_384, yTile 64#32 (View.ld ae (Rect.unit (s := S32x2048) ![0, 128] S32x128.size inb_S32x2048_S32x128_0_128)) (View.ld ao (Rect.unit (s := S32x2048) ![0, 128] S32x128.size inb_S32x2048_S32x128_0_128)) (View.ld sd (Rect.unit (s := S1x4096) ![0, 384] S1x128.size inb_S1x4096_S1x128_0_384))⟩,
   ⟨Rect.unit (s := S32x4096) ![0, 256] S32x128.size inb_S32x4096_S32x128_0_256, yTile 0#32 (View.ld ae (Rect.unit (s := S32x2048) ![0, 128] S32x128.size inb_S32x2048_S32x128_0_128)) (View.ld ao (Rect.unit (s := S32x2048) ![0, 128] S32x128.size inb_S32x2048_S32x128_0_128)) (View.ld sd (Rect.unit (s := S1x4096) ![0, 256] S1x128.size inb_S1x4096_S1x128_0_256))⟩,
   ⟨Rect.unit (s := S32x4096) ![0, 128] S32x128.size inb_S32x4096_S32x128_0_128, yTile 64#32 (View.ld ae (Rect.unit (s := S32x2048) ![0, 0] S32x128.size inb_S32x2048_S32x128_0_0)) (View.ld ao (Rect.unit (s := S32x2048) ![0, 0] S32x128.size inb_S32x2048_S32x128_0_0)) (View.ld sd (Rect.unit (s := S1x4096) ![0, 128] S1x128.size inb_S1x4096_S1x128_0_128))⟩,
   ⟨Rect.unit (s := S32x4096) ![0, 0] S32x128.size inb_S32x4096_S32x128_0_0, yTile 0#32 (View.ld ae (Rect.unit (s := S32x2048) ![0, 0] S32x128.size inb_S32x2048_S32x128_0_0)) (View.ld ao (Rect.unit (s := S32x2048) ![0, 0] S32x128.size inb_S32x2048_S32x128_0_0)) (View.ld sd (Rect.unit (s := S1x4096) ![0, 0] S1x128.size inb_S1x4096_S1x128_0_0))⟩]

/-- The array `y` the last step leaves. -/
def yOut (ae ao : Vec F S32x2048 .f32) (sd : Vec F S1x4096 .f32) : Vec F S32x4096 .bf16 := View.canon (yPieces ae ao sd)

/-- They cover the array: 32 tiles of 128 lanes. -/
theorem yPieces_cover (ae ao : Vec F S32x2048 .f32) (sd : Vec F S1x4096 .f32) (y : S32x4096.Idx) : ∃ p ∈ yPieces ae ao sd, y ∈ p.1.set :=
  View.cover_of_tiledL (yPieces ae ao sd) S32x128.size (by sl_kernel_rfl) y

/-- A buffer those stores were made into reads `yOut`. -/
theorem read_yOut {sg : RefSig} {κ : Kind} {sp : Space} (v : View sg κ sp S32x4096 .bf16) (f : v.ty.Contents (Elt F))
    (L : List (View.Piece (Elt F) S32x4096 .bf16)) (ae ao : Vec F S32x2048 .f32) (sd : Vec F S1x4096 .f32)
    (h : L = yPieces ae ao sd) : v.read (Elt F) (v.writes (Elt F) f L) = yOut ae ao sd := by
  subst h; exact View.read_writes_eq_canon v f _ (yPieces_cover ae ao sd)

end Cert.Kernel.Body

end
-- ==== Proof.Kernel.First.lean ====
module

public import proofs.«01_k».proof.Proof.Kernel.Blocks

@[expose] public section

set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first step: it stores the codes and scales and clears both accumulators before the middle step's work. -/
theorem triple_first (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : k0_cond1 i = 1#1) (hc1 : ¬k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (y0 : Vec F S32x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare (hBlock i (codesOf x0) (scalesOf x0) x1 x2 x3) ∗ owns (c : Thread nD τ) arg9 fullShare (codesOf x0) ∗ owns (c : Thread nD τ) arg10 fullShare (scalesOf x0) ∗ owns (c : Thread nD τ) arg11 fullShare (evenStep (hBlock i (codesOf x0) (scalesOf x0) x1 x2 x3) x4 k0_pay161) ∗ owns (c : Thread nD τ) arg12 fullShare (oddStep (hBlock i (codesOf x0) (scalesOf x0) x1 x2 x3) x4 k0_pay162)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H9]
    · iexists _; isplitr; swap; · iexact H9
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H10]
    · iexists _; isplitr; swap; · iexact H10
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H11]
    · iexists _; isplitr; swap; · iexact H11
      ipureintro; sl_unfold_words; rw [View.read_writes_full]; simp only [readAt_held, readCov_S32x4096, readCov_S32x128, readCov_S32x2048, ld_S32x4096, ld_S4096x512, ld_S512x2048, ld_S32x2048, ld_S32x128, ld_x]; rfl
    iexists _; isplitr; swap; · iexact H12
    ipureintro; sl_unfold_words; rw [View.read_writes_full]; simp only [readAt_held, readCov_S32x4096, readCov_S32x128, readCov_S32x2048, ld_S32x4096, ld_S4096x512, ld_S512x2048, ld_S32x2048, ld_S32x128, ld_x]; rfl

end Cert.Kernel.Body

end
-- ==== Proof.Kernel.Middle.lean ====
module

public import proofs.«01_k».proof.Proof.Kernel.Blocks

@[expose] public section

set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle step: it finds the codes and scales, stores its block of `h` and adds to both accumulators. -/
theorem triple_middle (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : ¬k0_cond1 i = 1#1) (hc1 : ¬k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (xc : Vec F S32x4096 .fp8e4m3) (xs : Vec F S32x128 .f32) (ae ao : Vec F S32x2048 .f32) (y0 : Vec F S32x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ (∃ d, owns (c : Thread nD τ) arg8 fullShare d) ∗ owns (c : Thread nD τ) arg9 fullShare xc ∗ owns (c : Thread nD τ) arg10 fullShare xs ∗ owns (c : Thread nD τ) arg11 fullShare ae ∗ owns (c : Thread nD τ) arg12 fullShare ao
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare (hBlock i xc xs x1 x2 x3) ∗ owns (c : Thread nD τ) arg9 fullShare xc ∗ owns (c : Thread nD τ) arg10 fullShare xs ∗ owns (c : Thread nD τ) arg11 fullShare (evenStep (hBlock i xc xs x1 x2 x3) x4 ae) ∗ owns (c : Thread nD τ) arg12 fullShare (oddStep (hBlock i xc xs x1 x2 x3) x4 ao)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; sl_unfold_words; rw [View.read_writes_full]; simp only [readAt_held, ld_S32x4096, ld_S4096x512, ld_S512x2048, ld_S32x2048, ld_S32x128, ld_x]; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; sl_unfold_words; rw [View.read_writes_full]; simp only [readAt_held, ld_S32x4096, ld_S4096x512, ld_S512x2048, ld_S32x2048, ld_S32x128, ld_x]; rfl
    iexists _; isplitr; swap; · iexact H12
    ipureintro; sl_unfold_words; rw [View.read_writes_full]; simp only [readAt_held, ld_S32x4096, ld_S4096x512, ld_S512x2048, ld_S32x2048, ld_S32x128, ld_x]; rfl

end Cert.Kernel.Body

end
-- ==== Proof.Kernel.Last.lean ====
module

public import proofs.«01_k».proof.Proof.Kernel.Blocks

@[expose] public section

set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The last step: the middle step's work, then the 32 output tiles from the finished accumulators. -/
theorem triple_last (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : ¬k0_cond1 i = 1#1) (hc1 : k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (xc : Vec F S32x4096 .fp8e4m3) (xs : Vec F S32x128 .f32) (ae ao : Vec F S32x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare ae ∗ owns (c : Thread nD τ) arg12 fullShare ao
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yOut (evenStep (hBlock i xc xs x1 x2 x3) x4 ae) (oddStep (hBlock i xc xs x1 x2 x3) x4 ao) x5) ∗ owns (c : Thread nD τ) arg8 fullShare (hBlock i xc xs x1 x2 x3) ∗ owns (c : Thread nD τ) arg9 fullShare xc ∗ owns (c : Thread nD τ) arg10 fullShare xs ∗ owns (c : Thread nD τ) arg11 fullShare (evenStep (hBlock i xc xs x1 x2 x3) x4 ae) ∗ owns (c : Thread nD τ) arg12 fullShare (oddStep (hBlock i xc xs x1 x2 x3) x4 ao)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; refine read_yOut _ _ _ _ _ _ ?_
      sl_unfold_words
      simp only [readAt_held, readCov_S32x4096, readCov_S32x128, readCov_S32x2048, ld_S32x4096, ld_S4096x512, ld_S512x2048, ld_S32x2048, ld_S32x128, ld_x]
      unfold yPieces
      repeat' first | (refine congrArg₂ List.cons ?_ ?_) | rfl
    isplitl [H8]
    · iexists _; isplitr; swap; · iexact H8
      ipureintro; sl_unfold_words; rw [View.read_writes_full]; simp only [readAt_held, ld_S32x4096, ld_S4096x512, ld_S512x2048, ld_S32x2048, ld_S32x128, ld_x]; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; sl_unfold_words; rw [View.read_writes_full]; simp only [readAt_held, ld_S32x4096, ld_S4096x512, ld_S512x2048, ld_S32x2048, ld_S32x128, ld_x]; rfl
    iexists _; isplitr; swap; · iexact H12
    ipureintro; sl_unfold_words; rw [View.read_writes_full]; simp only [readAt_held, ld_S32x4096, ld_S4096x512, ld_S512x2048, ld_S32x2048, ld_S32x128, ld_x]; rfl

end Cert.Kernel.Body

end
-- ==== Proof.Kernel.Frame.lean ====
module

public import proofs.«01_k».proof.Proof.Kernel.First
public import proofs.«01_k».proof.Proof.Kernel.Middle
public import proofs.«01_k».proof.Proof.Kernel.Last
public import proofs.«01_k».proof.Proof.Gen.Kernel.Points
public import Idealize.ShloMosaic.Lib.Pipeline.TableIdle
public import Idealize.ShloMosaic.Lib.Claim

@[expose] public section

set_option maxRecDepth 16384

noncomputable section

namespace Cert.Kernel.Body

open Idealize.ShloMosaic Idealize.ShloMosaic.TcCoe Idealize.ShloMosaic.Tactic
open Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! # The whole run: what every buffer holds after each grid step -/

/-! ## Which case a grid step is in -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem last_iff : ∀ t : Fin cfg0.N, k0_cond2 (grid0.coords t) = 1#1 ↔ t.val = 27 :=
  (by decide +kernel : ∀ t : Fin grid0.N, k0_cond2 (grid0.coords t) = 1#1 ↔ t.val = 27)

theorem idle_6 : ∀ t : Fin cfg0.N, t.val ≠ 27 → cfg0.idle 6 (grid0.coords t) = true := by decide +kernel
theorem live_6 : ∀ t : Fin cfg0.N, t.val = 27 → cfg0.idle 6 (grid0.coords t) = false := by decide +kernel
theorem noFlush_6 : ∀ t : Fin cfg0.N, t.val ≠ 27 → (cfg0.win 6).flush t = false := by decide +kernel
theorem live_8 : ∀ t : Fin cfg0.N, t.val = 0 → cfg0.idle 8 (grid0.coords t) = false := by decide +kernel
theorem idle_8 : ∀ t : Fin cfg0.N, t.val ≠ 0 → cfg0.idle 8 (grid0.coords t) = true := by decide +kernel
theorem noFlush_8 : ∀ t : Fin cfg0.N, t.val ≠ 27 → (cfg0.win 8).flush t = false := by decide +kernel
theorem flush_8 : ∀ t : Fin cfg0.N, t.val = 27 → (cfg0.win 8).flush t = true := by decide +kernel
theorem fresh_8 : ∀ t : Fin cfg0.N, t.val ≠ 0 → cfg0.fresh 8 t.val = false := by decide +kernel
theorem live_9 : ∀ t : Fin cfg0.N, t.val = 0 → cfg0.idle 9 (grid0.coords t) = false := by decide +kernel
theorem idle_9 : ∀ t : Fin cfg0.N, t.val ≠ 0 → cfg0.idle 9 (grid0.coords t) = true := by decide +kernel
theorem noFlush_9 : ∀ t : Fin cfg0.N, t.val ≠ 27 → (cfg0.win 9).flush t = false := by decide +kernel
theorem flush_9 : ∀ t : Fin cfg0.N, t.val = 27 → (cfg0.win 9).flush t = true := by decide +kernel
theorem fresh_9 : ∀ t : Fin cfg0.N, t.val ≠ 0 → cfg0.fresh 9 t.val = false := by decide +kernel

/-! ## The buffers a step works on -/

abbrev buf0 (t : Fin cfg0.N) : Memref sig .tc .vmem S32x4096 .bf16 := win0_0.stage (cfg0.slots t 0)
abbrev buf1 (t : Fin cfg0.N) : Memref sig .tc .vmem S4096x512 .fp8e4m3 := win0_1.stage (cfg0.slots t 1)
abbrev buf2 (t : Fin cfg0.N) : Memref sig .tc .vmem S1x14336 .f32 := win0_2.stage (cfg0.slots t 2)
abbrev buf3 (t : Fin cfg0.N) : Memref sig .tc .vmem S1x14336 .f32 := win0_3.stage (cfg0.slots t 3)
abbrev buf4 (t : Fin cfg0.N) : Memref sig .tc .vmem S512x2048 .i8 := win0_4.stage (cfg0.slots t 4)
abbrev buf5 (t : Fin cfg0.N) : Memref sig .tc .vmem S1x4096 .f32 := win0_5.stage (cfg0.slots t 5)
abbrev buf6 (t : Fin cfg0.N) : Memref sig .tc .vmem S32x4096 .bf16 := win0_6.stage (cfg0.slots t 6)
abbrev buf7 (t : Fin cfg0.N) : Memref sig .tc .vmem S32x512 .bf16 := win0_7.stage (cfg0.slots t 7)
abbrev buf8 (t : Fin cfg0.N) : Memref sig .tc .vmem S32x4096 .fp8e4m3 := win0_8.stage (cfg0.slots t 8)
abbrev buf9 (t : Fin cfg0.N) : Memref sig .tc .vmem S32x128 .f32 := win0_9.stage (cfg0.slots t 9)

abbrev accE : Memref sig .tc .vmem S32x2048 .f32 := Memref.whole cc0_scratch0
abbrev accO : Memref sig .tc .vmem S32x2048 .f32 := Memref.whole cc0_scratch1

/-- What the launch hands the region, with the two accumulators as buffers owned at some contents. -/
theorem start_eq (c : Dev nD) :
    (Pipeline.ΦA spec0 c : sProp 𝕄)
      = iprop(iprop((∃ d, owns (c : Thread nD τ) accE fullShare d) ∗ (∃ d, owns (c : Thread nD τ) accO fullShare d)) ∗ (∃ r, prngReg c r)) := by
  unfold Pipeline.ΦA; rw [scopedRest0_eq]; simp only [accE, accO, owns_whole]; try rfl

/-! ## The contents, step by step -/

/-- The first grid step. -/
def t0 : Fin cfg0.N := ⟨0, by rw [show cfg0.N = 28 from N_0]; omega⟩

/-- The codes of the activations. -/
def codes (c : Dev nD) : Vec F S32x4096 .fp8e4m3 := codesOf (iblk m c 0 t0)

/-- The scales of the activations' rows, in every lane. -/
def scales (c : Dev nD) : Vec F S32x128 .f32 := scalesOf (iblk m c 0 t0)

/-- The block of `h` of step `t`. -/
def hAt (c : Dev nD) (t : Fin cfg0.N) : Vec F S32x512 .bf16 :=
  hBlock (grid0.coords t) (codes m c) (scales m c) (iblk m c 1 t) (iblk m c 2 t) (iblk m c 3 t)

/-- The even-column accumulator before step `n` (cleared before the first). -/
def evenAt (c : Dev nD) : ℕ → Vec F S32x2048 .f32
  | 0 => k0_pay161
  | n + 1 => if h : n < cfg0.N then evenStep (hAt m c ⟨n, h⟩) (iblk m c 4 ⟨n, h⟩) (evenAt c n) else evenAt c n

/-- The odd-column accumulator before step `n`. -/
def oddAt (c : Dev nD) : ℕ → Vec F S32x2048 .f32
  | 0 => k0_pay162
  | n + 1 => if h : n < cfg0.N then oddStep (hAt m c ⟨n, h⟩) (iblk m c 4 ⟨n, h⟩) (oddAt c n) else oddAt c n

theorem evenAt_succ (c : Dev nD) (t : Fin cfg0.N) : evenAt m c (t.val + 1) = evenStep (hAt m c t) (iblk m c 4 t) (evenAt m c t.val) :=
  dif_pos t.isLt
theorem oddAt_succ (c : Dev nD) (t : Fin cfg0.N) : oddAt m c (t.val + 1) = oddStep (hAt m c t) (iblk m c 4 t) (oddAt m c t.val) :=
  dif_pos t.isLt

/-- The output tiles, were they stored after step `t` (they are after the last). -/
def yAfter (c : Dev nD) (t : Fin cfg0.N) : Vec F S32x4096 .bf16 := yOut (evenAt m c (t.val + 1)) (oddAt m c (t.val + 1)) (iblk m c 5 t)

/-- What holds between steps: both accumulators at their partial sums. -/
def between (c : Dev nD) : ℕ → sProp 𝕄
  | 0 => Pipeline.ΦA spec0 c
  | n + 1 => iprop(iprop(owns (c : Thread nD τ) accE fullShare (evenAt m c (n + 1)) ∗ owns (c : Thread nD τ) accO fullShare (oddAt m c (n + 1))) ∗ (∃ r, prngReg c r))

theorem between_zero (c : Dev nD) (n : ℕ) (hz : n = 0) : between m c n = Pipeline.ΦA spec0 c := by subst hz; rfl
theorem between_succ (c : Dev nD) (n : ℕ) :
    between m c (n + 1) = iprop(iprop(owns (c : Thread nD τ) accE fullShare (evenAt m c (n + 1)) ∗ owns (c : Thread nD τ) accO fullShare (oddAt m c (n + 1))) ∗ (∃ r, prngReg c r)) := rfl
theorem between_pos (c : Dev nD) (n : ℕ) (hz : n ≠ 0) :
    between m c n = iprop(iprop(owns (c : Thread nD τ) accE fullShare (evenAt m c n) ∗ owns (c : Thread nD τ) accO fullShare (oddAt m c n)) ∗ (∃ r, prngReg c r)) := by
  cases n with
  | zero => exact absurd rfl hz
  | succ n => rfl

/-- The proof data: the arrays as the region finds them, what each buffer holds after step `t`, and `between`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAfter m c t
    | ⟨7, _⟩ => hAt m c t
    | ⟨8, _⟩ => codes m c
    | ⟨9, _⟩ => scales m c
  Φ t := between m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yAfter m c t := by dsimp only [dats]
theorem after_7 (c : Dev nD) (t : Fin cfg0.N) : (dats m 0 c).after 7 t = hAt m c t := by dsimp only [dats]
theorem after_8 (c : Dev nD) (t : Fin cfg0.N) : (dats m 0 c).after 8 t = codes m c := by dsimp only [dats]
theorem after_9 (c : Dev nD) (t : Fin cfg0.N) : (dats m 0 c).after 9 t = scales m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- After the first step the codes stay where they were stored. -/
theorem before_8 (c : Dev nD) (t : Fin cfg0.N) (ht : t.val ≠ 0) (d) : (dats m 0 c).before 8 t d = codes m c := by
  rw [(dats m 0 c).before_out_traj 8 rfl (fun _ _ => rfl) (fun t _ _ _ => by rw [after_8, after_8]) t.val t rfl d, fresh_8 t ht, after_8]
  exact if_neg Bool.false_ne_true
/-- After the first step the scales stay where they were stored. -/
theorem before_9 (c : Dev nD) (t : Fin cfg0.N) (ht : t.val ≠ 0) (d) : (dats m 0 c).before 9 t d = scales m c := by
  rw [(dats m 0 c).before_out_traj 9 rfl (fun _ _ => rfl) (fun t _ _ _ => by rw [after_9, after_9]) t.val t rfl d, fresh_9 t ht, after_9]
  exact if_neg Bool.false_ne_true

/-! ## Every step meets its obligation -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3200000 in
/-- The body at any step, by the three triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = between m c (t.val + 1) from rfl, between_succ, evenAt_succ, oddAt_succ]
  rw [show (dats m 0 c).Φ t.castSucc = between m c t.val from rfl]
  have hN : t.val < 28 := lt_of_lt_of_eq t.isLt (show cfg0.N = 28 from N_0)
  by_cases h0 : t.val = 0
  · have h1 : t.val ≠ 27 := by omega
    rw [show (dats m 0 c).leavesExact 0 t = owns (c : Thread nD τ) (buf0 t) fullShare ((dats m 0 c).after 0 t) from by
      unfold Dat.leavesExact; rw [(rfl : cfg0.idle 0 (grid0.coords t) = false)], after_0]
    rw [show (dats m 0 c).leavesExact 1 t = owns (c : Thread nD τ) (buf1 t) fullShare ((dats m 0 c).after 1 t) from by
      unfold Dat.leavesExact; rw [(rfl : cfg0.idle 1 (grid0.coords t) = false)], after_1]
    rw [show (dats m 0 c).leavesExact 2 t = owns (c : Thread nD τ) (buf2 t) fullShare ((dats m 0 c).after 2 t) from by
      unfold Dat.leavesExact; rw [(rfl : cfg0.idle 2 (grid0.coords t) = false)], after_2]
    rw [show (dats m 0 c).leavesExact 3 t = owns (c : Thread nD τ) (buf3 t) fullShare ((dats m 0 c).after 3 t) from by
      unfold Dat.leavesExact; rw [(rfl : cfg0.idle 3 (grid0.coords t) = false)], after_3]
    rw [show (dats m 0 c).leavesExact 4 t = owns (c : Thread nD τ) (buf4 t) fullShare ((dats m 0 c).after 4 t) from by
      unfold Dat.leavesExact; rw [(rfl : cfg0.idle 4 (grid0.coords t) = false)], after_4]
    rw [show (dats m 0 c).leavesExact 5 t = owns (c : Thread nD τ) (buf5 t) fullShare ((dats m 0 c).after 5 t) from by
      unfold Dat.leavesExact; rw [(rfl : cfg0.idle 5 (grid0.coords t) = false)], after_5]
    rw [Dat.leavesExact_idle (dats m 0 c) 6 t (idle_6 t h1) (noFlush_6 t h1)]
    rw [show (dats m 0 c).leavesExact 7 t = owns (c : Thread nD τ) (buf7 t) fullShare ((dats m 0 c).after 7 t) from by
      unfold Dat.leavesExact; rw [(rfl : cfg0.idle 7 (grid0.coords t) = false)], after_7]
    rw [show (dats m 0 c).leavesExact 8 t = owns (c : Thread nD τ) (buf8 t) fullShare ((dats m 0 c).after 8 t) from by
      unfold Dat.leavesExact; rw [live_8 t h0], after_8]
    rw [show (dats m 0 c).leavesExact 9 t = owns (c : Thread nD τ) (buf9 t) fullShare ((dats m 0 c).after 9 t) from by
      unfold Dat.leavesExact; rw [live_9 t h0], after_9]
    rw [between_zero m c _ h0, start_eq]
    have ht : t = t0 := Fin.ext h0
    rw [show hAt m c t = hBlock (grid0.coords t) (codesOf (iblk m c 0 t)) (scalesOf (iblk m c 0 t)) (iblk m c 1 t) (iblk m c 2 t) (iblk m c 3 t) from by rw [ht]; rfl]
    rw [show codes m c = codesOf (iblk m c 0 t) from by rw [ht]; rfl, show scales m c = scalesOf (iblk m c 0 t) from by rw [ht]; rfl]
    rw [show evenAt m c t.val = k0_pay161 from by rw [h0]; rfl, show oddAt m c t.val = k0_pay162 from by rw [h0]; rfl]
    iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (triple_first c (grid0.coords t) _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HE]; · iexact HE
    isplitl [HO]; · iexact HO
    iintro ⟨H0, H1, H2, H3, H4, H5, H6, H7, H8, H9, HE, HO⟩
    isplitl [HE HO Hg]
    · isplitl [HE HO]
      · isplitl [HE]; · iexact HE
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iexact H9
  · rw [between_pos m c _ h0]
    rw [show hAt m c t = hBlock (grid0.coords t) (codes m c) (scales m c) (iblk m c 1 t) (iblk m c 2 t) (iblk m c 3 t) from rfl]
    simp only [before_8 m c t h0, before_9 m c t h0]
    rw [show (dats m 0 c).leavesExact 0 t = owns (c : Thread nD τ) (buf0 t) fullShare ((dats m 0 c).after 0 t) from by
      unfold Dat.leavesExact; rw [(rfl : cfg0.idle 0 (grid0.coords t) = false)], after_0]
    rw [show (dats m 0 c).leavesExact 1 t = owns (c : Thread nD τ) (buf1 t) fullShare ((dats m 0 c).after 1 t) from by
      unfold Dat.leavesExact; rw [(rfl : cfg0.idle 1 (grid0.coords t) = false)], after_1]
    rw [show (dats m 0 c).leavesExact 2 t = owns (c : Thread nD τ) (buf2 t) fullShare ((dats m 0 c).after 2 t) from by
      unfold Dat.leavesExact; rw [(rfl : cfg0.idle 2 (grid0.coords t) = false)], after_2]
    rw [show (dats m 0 c).leavesExact 3 t = owns (c : Thread nD τ) (buf3 t) fullShare ((dats m 0 c).after 3 t) from by
      unfold Dat.leavesExact; rw [(rfl : cfg0.idle 3 (grid0.coords t) = false)], after_3]
    rw [show (dats m 0 c).leavesExact 4 t = owns (c : Thread nD τ) (buf4 t) fullShare ((dats m 0 c).after 4 t) from by
      unfold Dat.leavesExact; rw [(rfl : cfg0.idle 4 (grid0.coords t) = false)], after_4]
    rw [show (dats m 0 c).leavesExact 5 t = owns (c : Thread nD τ) (buf5 t) fullShare ((dats m 0 c).after 5 t) from by
      unfold Dat.leavesExact; rw [(rfl : cfg0.idle 5 (grid0.coords t) = false)], after_5]
    by_cases h1 : t.val = 27
    · skip
      rw [show (dats m 0 c).leavesExact 6 t = owns (c : Thread nD τ) (buf6 t) fullShare ((dats m 0 c).after 6 t) from by
        unfold Dat.leavesExact; rw [live_6 t h1], after_6]
      rw [show (dats m 0 c).leavesExact 7 t = owns (c : Thread nD τ) (buf7 t) fullShare ((dats m 0 c).after 7 t) from by
        unfold Dat.leavesExact; rw [(rfl : cfg0.idle 7 (grid0.coords t) = false)], after_7]
      rw [show (dats m 0 c).leavesExact 8 t = owns (c : Thread nD τ) (buf8 t) fullShare ((dats m 0 c).after 8 t) from by
        unfold Dat.leavesExact; rw [idle_8 t h0, flush_8 t h1], after_8]
      rw [show (dats m 0 c).leavesExact 9 t = owns (c : Thread nD τ) (buf9 t) fullShare ((dats m 0 c).after 9 t) from by
        unfold Dat.leavesExact; rw [idle_9 t h0, flush_9 t h1], after_9]
      rw [show yAfter m c t = yOut (evenAt m c (t.val + 1)) (oddAt m c (t.val + 1)) (iblk m c 5 t) from rfl, evenAt_succ, oddAt_succ]
      rw [show hAt m c t = hBlock (grid0.coords t) (codes m c) (scales m c) (iblk m c 1 t) (iblk m c 2 t) (iblk m c 3 t) from rfl]
      iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (triple_last c (grid0.coords t) _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (codes m c) (scales m c) (evenAt m c t.val) (oddAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [HE]; · iexact HE
      isplitl [HO]; · iexact HO
      iintro ⟨H0, H1, H2, H3, H4, H5, H6, H7, H8, H9, HE, HO⟩
      isplitl [HE HO Hg]
      · isplitl [HE HO]
        · isplitl [HE]; · iexact HE
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · skip
      rw [Dat.leavesExact_idle (dats m 0 c) 6 t (idle_6 t h1) (noFlush_6 t h1)]
      rw [show (dats m 0 c).leavesExact 7 t = owns (c : Thread nD τ) (buf7 t) fullShare ((dats m 0 c).after 7 t) from by
        unfold Dat.leavesExact; rw [(rfl : cfg0.idle 7 (grid0.coords t) = false)], after_7]
      rw [Dat.leavesExact_idle (dats m 0 c) 8 t (idle_8 t h0) (noFlush_8 t h1)]
      rw [Dat.leavesExact_idle (dats m 0 c) 9 t (idle_9 t h0) (noFlush_9 t h1)]
      simp only [before_8 m c t h0, before_9 m c t h0]
      rw [show hAt m c t = hBlock (grid0.coords t) (codes m c) (scales m c) (iblk m c 1 t) (iblk m c 2 t) (iblk m c 3 t) from rfl]
      iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (triple_middle c (grid0.coords t) _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (codes m c) (scales m c) (evenAt m c t.val) (oddAt m c t.val) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HE]; · iexact HE
      isplitl [HO]; · iexact HO
      iintro ⟨H0, H1, H2, H3, H4, H5, H6, H7, H8, H9, HE, HO⟩
      isplitl [HE HO Hg]
      · isplitl [HE HO]
        · isplitl [HE]; · iexact HE
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists d8; iexact H8
      iexists d9; iexact H9

/-- The body table's row at step `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 from rfl, between_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c (Fin.last cfg0.N).val from rfl,
    between_pos m c _ (by rw [Fin.val_last]; have : cfg0.N = 28 := N_0; omega), start_eq]
  iintro ⟨⟨HE, HO⟩, Hg⟩
  isplitl [HE HO]
  · isplitl [HE]
    · iexists _; iexact HE
    iexists _; iexact HO
  iexact Hg

/-! ## The run -/

set_option backward.isDefEq.respectTransparency.types false in
/-- Every execution ends, with every array at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.Kernel.Body

end
-- ==== Proof.KernelIdeal.Blocks.lean ====
module

public import proofs.«01_k».proof.Proof.Gen.KernelIdeal.Frame
public import proofs.«01_k».proof.Proof.Gen.KernelIdeal.Skeleton
public import Idealize.ShloMosaic.Lib.VecWindow
public import Idealize.ShloMosaic.Lib.Ring

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one grid step leaves in each buffer, as functions of what it finds -/

/-- The row scales, read from the first lane of their lane-wide broadcast. -/
def scaleCol (xs : Vec F S32x128 .f32) : Vec F S32x1 .f32 :=
  View.ld xs (Rect.unit (s := S32x128) ![0, 0] S32x1.size inb_S32x128_S32x1_0_0)

/-- Step `i`'s 512 lanes of a row vector over the hidden axis. -/
def laneBlock (i : grid0.Coords) (x : Vec F S1x14336 .f32) : Vec F S1x512 .f32 :=
  View.ld x (Rect.unit (s := S1x14336) (k0_off1 i) S1x512.size (k0_off1_inb i))

/-- The block of `h` that step `i` stores: codes against the weight block, scaled, biased, rectified. -/
def hBlock (i : grid0.Coords) (xc : Vec F S32x4096 .fp8e4m3) (xs : Vec F S32x128 .f32) (x1 : Vec F S4096x512 .fp8e4m3)
    (x2 x3 : Vec F S1x14336 .f32) : Vec F S32x512 .bf16 :=
  k0_pay163 xc x1 (scaleCol xs) (laneBlock i x2) (laneBlock i x3)

/-- The codes the first step stores. -/
def codesOf (x0 : Vec F S32x4096 .bf16) : Vec F S32x4096 .fp8e4m3 := k0_pay6 x0

/-- The scales the first step stores, one per row in every lane. -/
def scalesOf (x0 : Vec F S32x4096 .bf16) : Vec F S32x128 .f32 := k0_pay160 (k0_pay5 x0)

/-- The even-column accumulator after a step that found `ae` in it. -/
def evenStep (h : Vec F S32x512 .bf16) (x4 : Vec F S512x2048 .i8) (ae : Vec F S32x2048 .f32) : Vec F S32x2048 .f32 :=
  k0_pay1 h (k0_pay165 x4) ae

/-- The odd-column accumulator after a step that found `ao` in it. -/
def oddStep (h : Vec F S32x512 .bf16) (x4 : Vec F S512x2048 .i8) (ao : Vec F S32x2048 .f32) : Vec F S32x2048 .f32 :=
  k0_pay2 h (k0_pay166 x4) 28#32 ao

/-! ## Reading back a buffer stored whole -/

/-- A load of any rectangle after one store of the whole buffer reads the stored array there. -/
theorem readCov_whole {sg : RefSig} {κ : Kind} {sp : Space} {s : Shape} {e : EltTy} (v : View sg κ sp s e) {off : Fin s.rank → ℕ}
    (inb : ∀ a, off a + s.size a ≤ s.size a) (w : s.Idx → Elt F e) (L : List (View.Piece (Elt F) s e)) (r : Rect s) :
    v.readCov (⟨Rect.unit off s.size inb, w⟩ :: L) r.toLoadRect = View.ld w r :=
  congrArg (fun z : s.Idx → Elt F e => View.ld z r) (View.read_writes_full v v.junk inb w L)

/-- A load of any rectangle of a buffer that holds `x`. -/
theorem readAt_held {sg : RefSig} {κ : Kind} {sp : Space} {s : Shape} {e : EltTy} (a : Memref sg κ sp s e) (ha : a.IsWhole)
    (x : s.Idx → Elt F e) (r : Rect s) : a.view.readAt (Elt F) r.toLoadRect (ha.unread x) = View.ld x r :=
  congrArg (fun z : s.Idx → Elt F e => View.ld z r) (ha.read_unread x)

/-- A rectangle of the whole shape loads everything. -/
theorem ld_whole {s : Shape} {e : EltTy} (x : s.Idx → Elt F e) {off : Fin s.rank → ℕ} (inb : ∀ a, off a + s.size a ≤ s.size a) :
    View.ld x (Rect.unit off s.size inb) = x :=
  funext fun z => congrArg x (Rect.emb_unit_full inb z)

theorem ld_S32x4096 (x : S32x4096.Idx → Elt F .fp8e4m3) (inb : ∀ a, (![0, 0] : Fin 2 → ℕ) a + (![32, 4096] : Fin 2 → ℕ) a ≤ S32x4096.size a) :
    View.ld x (Rect.unit (s := S32x4096) ![0, 0] ![32, 4096] inb) = x := ld_whole x inb

theorem ld_S4096x512 (x : S4096x512.Idx → Elt F .fp8e4m3) (inb : ∀ a, (![0, 0] : Fin 2 → ℕ) a + (![4096, 512] : Fin 2 → ℕ) a ≤ S4096x512.size a) :
    View.ld x (Rect.unit (s := S4096x512) ![0, 0] ![4096, 512] inb) = x := ld_whole x inb

theorem ld_S512x2048 (x : S512x2048.Idx → Elt F .i8) (inb : ∀ a, (![0, 0] : Fin 2 → ℕ) a + (![512, 2048] : Fin 2 → ℕ) a ≤ S512x2048.size a) :
    View.ld x (Rect.unit (s := S512x2048) ![0, 0] ![512, 2048] inb) = x := ld_whole x inb

theorem ld_S32x2048 (x : S32x2048.Idx → Elt F .f32) (inb : ∀ a, (![0, 0] : Fin 2 → ℕ) a + (![32, 2048] : Fin 2 → ℕ) a ≤ S32x2048.size a) :
    View.ld x (Rect.unit (s := S32x2048) ![0, 0] ![32, 2048] inb) = x := ld_whole x inb

theorem ld_S32x128 (x : S32x128.Idx → Elt F .f32) (inb : ∀ a, (![0, 0] : Fin 2 → ℕ) a + (![32, 128] : Fin 2 → ℕ) a ≤ S32x128.size a) :
    View.ld x (Rect.unit (s := S32x128) ![0, 0] ![32, 128] inb) = x := ld_whole x inb

theorem ld_x (x : S32x4096.Idx → Elt F .bf16) (inb : ∀ a, (![0, 0] : Fin 2 → ℕ) a + (![32, 4096] : Fin 2 → ℕ) a ≤ S32x4096.size a) :
    View.ld x (Rect.unit (s := S32x4096) ![0, 0] ![32, 4096] inb) = x := ld_whole x inb

theorem readCov_S32x4096 {sg : RefSig} {κ : Kind} {sp : Space} (v : View sg κ sp S32x4096 .fp8e4m3) (w : S32x4096.Idx → Elt F .fp8e4m3) (L : List (View.Piece (Elt F) S32x4096 .fp8e4m3)) (r : Rect S32x4096)
    (inb : ∀ a, (![0, 0] : Fin 2 → ℕ) a + (![32, 4096] : Fin 2 → ℕ) a ≤ S32x4096.size a) :
    v.readCov (⟨Rect.unit (s := S32x4096) ![0, 0] ![32, 4096] inb, w⟩ :: L) r.toLoadRect = View.ld w r := readCov_whole v inb w L r

theorem readCov_S32x2048 {sg : RefSig} {κ : Kind} {sp : Space} (v : View sg κ sp S32x2048 .f32) (w : S32x2048.Idx → Elt F .f32) (L : List (View.Piece (Elt F) S32x2048 .f32)) (r : Rect S32x2048)
    (inb : ∀ a, (![0, 0] : Fin 2 → ℕ) a + (![32, 2048] : Fin 2 → ℕ) a ≤ S32x2048.size a) :
    v.readCov (⟨Rect.unit (s := S32x2048) ![0, 0] ![32, 2048] inb, w⟩ :: L) r.toLoadRect = View.ld w r := readCov_whole v inb w L r

theorem readCov_S32x128 {sg : RefSig} {κ : Kind} {sp : Space} (v : View sg κ sp S32x128 .f32) (w : S32x128.Idx → Elt F .f32) (L : List (View.Piece (Elt F) S32x128 .f32)) (r : Rect S32x128)
    (inb : ∀ a, (![0, 0] : Fin 2 → ℕ) a + (![32, 128] : Fin 2 → ℕ) a ≤ S32x128.size a) :
    v.readCov (⟨Rect.unit (s := S32x128) ![0, 0] ![32, 128] inb, w⟩ :: L) r.toLoadRect = View.ld w r := readCov_whole v inb w L r

/-! ## The last step's output tiles -/

/-- The lane numbers of a 128-lane tile. -/
def lanes : IVec S32x128 32 := iota .tc S32x128 32 [1] iota_S32x128_d1_w32

/-- The lane an output lane takes its value from: half its own number, plus `off`. -/
def sourceLane (off : BitVec 32) : IVec S32x128 32 :=
  have d : IVec S32x128 32 := divsi lanes (broadcast S32x128 2#32)
  have sgn : IVec S32x128 32 := subi (extui 32 (cmpi .sgt lanes (broadcast S32x128 0#32)) natLt_1_32) (extui 32 (cmpi .slt lanes (broadcast S32x128 0#32)) natLt_1_32)
  have one : BitVec 32 := Scalar.subi (Scalar.extui (Scalar.cmpi .sgt 2#32 0#32)) (Scalar.extui (Scalar.cmpi .slt 2#32 0#32))
  have low : IVec S32x128 1 := andi (cmpi .ne sgn (broadcast S32x128 one)) (cmpi .ne (remsi lanes (broadcast S32x128 2#32)) (broadcast S32x128 0#32))
  addi (select low (subi d (broadcast S32x128 1#32)) d) (broadcast S32x128 off)

/-- Whether an output lane is even. -/
def evenLane : IVec S32x128 1 :=
  have two : BitVec 32 := Scalar.select (Scalar.cmpi .eq 2#32 0#32) 1#32 2#32
  have r : IVec S32x128 32 := remsi lanes (broadcast S32x128 two)
  have neg : IVec S32x128 1 := andi (xori (cmpi .slt r (broadcast S32x128 0#32)) (broadcastTo S32x128 (broadcast S32x128 (Scalar.cmpi .slt two 0#32)) broadcasts_S32x128_S32x128)) (cmpi .ne r (broadcast S32x128 0#32))
  cmpi .eq (select neg (addi r (broadcast S32x128 two)) r) (broadcast S32x128 0#32)

/-- A gather along the lanes by the numbers `n`, a negative one counted from the end. -/
def takeLanes (x : Vec F S32x128 .f32) (n : IVec S32x128 32) : FVec F S32x128 .f32 :=
  dynamicGather 1 x (shapeCast S32x128 (shapeCast S32x128x1 (select (cmpi .slt n (broadcast S32x128 0#32)) (addi n (broadcast S32x128 128#32)) n) shapeCasts_S32x128_S32x128x1) shapeCasts_S32x128x1_S32x128)

/-- One 128-lane tile of `y`: even and odd columns interleaved, scaled by the column scales. -/
def yTile (off : BitVec 32) (ev od : Vec F S32x128 .f32) (sd : Vec F S1x128 .f32) : FVec F S32x128 .bf16 :=
  truncf .bf16 (mulf (select evenLane (takeLanes ev (sourceLane off)) (takeLanes od (sourceLane off)))
    (broadcastTo S32x128 (shapeCast S1x128 sd shapeCasts_S1x128_S1x128) broadcasts_S1x128_S32x128)) bitsLt_bf16_f32

/-- The 32 stores of the last step, last first. -/
def yPieces (ae ao : Vec F S32x2048 .f32) (sd : Vec F S1x4096 .f32) : List (View.Piece (Elt F) S32x4096 .bf16) :=
  [⟨Rect.unit (s := S32x4096) ![0, 3968] S32x128.size inb_S32x4096_S32x128_0_3968, yTile 64#32 (View.ld ae (Rect.unit (s := S32x2048) ![0, 1920] S32x128.size inb_S32x2048_S32x128_0_1920)) (View.ld ao (Rect.unit (s := S32x2048) ![0, 1920] S32x128.size inb_S32x2048_S32x128_0_1920)) (View.ld sd (Rect.unit (s := S1x4096) ![0, 3968] S1x128.size inb_S1x4096_S1x128_0_3968))⟩,
   ⟨Rect.unit (s := S32x4096) ![0, 3840] S32x128.size inb_S32x4096_S32x128_0_3840, yTile 0#32 (View.ld ae (Rect.unit (s := S32x2048) ![0, 1920] S32x128.size inb_S32x2048_S32x128_0_1920)) (View.ld ao (Rect.unit (s := S32x2048) ![0, 1920] S32x128.size inb_S32x2048_S32x128_0_1920)) (View.ld sd (Rect.unit (s := S1x4096) ![0, 3840] S1x128.size inb_S1x4096_S1x128_0_3840))⟩,
   ⟨Rect.unit (s := S32x4096) ![0, 3712] S32x128.size inb_S32x4096_S32x128_0_3712, yTile 64#32 (View.ld ae (Rect.unit (s := S32x2048) ![0, 1792] S32x128.size inb_S32x2048_S32x128_0_1792)) (View.ld ao (Rect.unit (s := S32x2048) ![0, 1792] S32x128.size inb_S32x2048_S32x128_0_1792)) (View.ld sd (Rect.unit (s := S1x4096) ![0, 3712] S1x128.size inb_S1x4096_S1x128_0_3712))⟩,
   ⟨Rect.unit (s := S32x4096) ![0, 3584] S32x128.size inb_S32x4096_S32x128_0_3584, yTile 0#32 (View.ld ae (Rect.unit (s := S32x2048) ![0, 1792] S32x128.size inb_S32x2048_S32x128_0_1792)) (View.ld ao (Rect.unit (s := S32x2048) ![0, 1792] S32x128.size inb_S32x2048_S32x128_0_1792)) (View.ld sd (Rect.unit (s := S1x4096) ![0, 3584] S1x128.size inb_S1x4096_S1x128_0_3584))⟩,
   ⟨Rect.unit (s := S32x4096) ![0, 3456] S32x128.size inb_S32x4096_S32x128_0_3456, yTile 64#32 (View.ld ae (Rect.unit (s := S32x2048) ![0, 1664] S32x128.size inb_S32x2048_S32x128_0_1664)) (View.ld ao (Rect.unit (s := S32x2048) ![0, 1664] S32x128.size inb_S32x2048_S32x128_0_1664)) (View.ld sd (Rect.unit (s := S1x4096) ![0, 3456] S1x128.size inb_S1x4096_S1x128_0_3456))⟩,
   ⟨Rect.unit (s := S32x4096) ![0, 3328] S32x128.size inb_S32x4096_S32x128_0_3328, yTile 0#32 (View.ld ae (Rect.unit (s := S32x2048) ![0, 1664] S32x128.size inb_S32x2048_S32x128_0_1664)) (View.ld ao (Rect.unit (s := S32x2048) ![0, 1664] S32x128.size inb_S32x2048_S32x128_0_1664)) (View.ld sd (Rect.unit (s := S1x4096) ![0, 3328] S1x128.size inb_S1x4096_S1x128_0_3328))⟩,
   ⟨Rect.unit (s := S32x4096) ![0, 3200] S32x128.size inb_S32x4096_S32x128_0_3200, yTile 64#32 (View.ld ae (Rect.unit (s := S32x2048) ![0, 1536] S32x128.size inb_S32x2048_S32x128_0_1536)) (View.ld ao (Rect.unit (s := S32x2048) ![0, 1536] S32x128.size inb_S32x2048_S32x128_0_1536)) (View.ld sd (Rect.unit (s := S1x4096) ![0, 3200] S1x128.size inb_S1x4096_S1x128_0_3200))⟩,
   ⟨Rect.unit (s := S32x4096) ![0, 3072] S32x128.size inb_S32x4096_S32x128_0_3072, yTile 0#32 (View.ld ae (Rect.unit (s := S32x2048) ![0, 1536] S32x128.size inb_S32x2048_S32x128_0_1536)) (View.ld ao (Rect.unit (s := S32x2048) ![0, 1536] S32x128.size inb_S32x2048_S32x128_0_1536)) (View.ld sd (Rect.unit (s := S1x4096) ![0, 3072] S1x128.size inb_S1x4096_S1x128_0_3072))⟩,
   ⟨Rect.unit (s := S32x4096) ![0, 2944] S32x128.size inb_S32x4096_S32x128_0_2944, yTile 64#32 (View.ld ae (Rect.unit (s := S32x2048) ![0, 1408] S32x128.size inb_S32x2048_S32x128_0_1408)) (View.ld ao (Rect.unit (s := S32x2048) ![0, 1408] S32x128.size inb_S32x2048_S32x128_0_1408)) (View.ld sd (Rect.unit (s := S1x4096) ![0, 2944] S1x128.size inb_S1x4096_S1x128_0_2944))⟩,
   ⟨Rect.unit (s := S32x4096) ![0, 2816] S32x128.size inb_S32x4096_S32x128_0_2816, yTile 0#32 (View.ld ae (Rect.unit (s := S32x2048) ![0, 1408] S32x128.size inb_S32x2048_S32x128_0_1408)) (View.ld ao (Rect.unit (s := S32x2048) ![0, 1408] S32x128.size inb_S32x2048_S32x128_0_1408)) (View.ld sd (Rect.unit (s := S1x4096) ![0, 2816] S1x128.size inb_S1x4096_S1x128_0_2816))⟩,
   ⟨Rect.unit (s := S32x4096) ![0, 2688] S32x128.size inb_S32x4096_S32x128_0_2688, yTile 64#32 (View.ld ae (Rect.unit (s := S32x2048) ![0, 1280] S32x128.size inb_S32x2048_S32x128_0_1280)) (View.ld ao (Rect.unit (s := S32x2048) ![0, 1280] S32x128.size inb_S32x2048_S32x128_0_1280)) (View.ld sd (Rect.unit (s := S1x4096) ![0, 2688] S1x128.size inb_S1x4096_S1x128_0_2688))⟩,
   ⟨Rect.unit (s := S32x4096) ![0, 2560] S32x128.size inb_S32x4096_S32x128_0_2560, yTile 0#32 (View.ld ae (Rect.unit (s := S32x2048) ![0, 1280] S32x128.size inb_S32x2048_S32x128_0_1280)) (View.ld ao (Rect.unit (s := S32x2048) ![0, 1280] S32x128.size inb_S32x2048_S32x128_0_1280)) (View.ld sd (Rect.unit (s := S1x4096) ![0, 2560] S1x128.size inb_S1x4096_S1x128_0_2560))⟩,
   ⟨Rect.unit (s := S32x4096) ![0, 2432] S32x128.size inb_S32x4096_S32x128_0_2432, yTile 64#32 (View.ld ae (Rect.unit (s := S32x2048) ![0, 1152] S32x128.size inb_S32x2048_S32x128_0_1152)) (View.ld ao (Rect.unit (s := S32x2048) ![0, 1152] S32x128.size inb_S32x2048_S32x128_0_1152)) (View.ld sd (Rect.unit (s := S1x4096) ![0, 2432] S1x128.size inb_S1x4096_S1x128_0_2432))⟩,
   ⟨Rect.unit (s := S32x4096) ![0, 2304] S32x128.size inb_S32x4096_S32x128_0_2304, yTile 0#32 (View.ld ae (Rect.unit (s := S32x2048) ![0, 1152] S32x128.size inb_S32x2048_S32x128_0_1152)) (View.ld ao (Rect.unit (s := S32x2048) ![0, 1152] S32x128.size inb_S32x2048_S32x128_0_1152)) (View.ld sd (Rect.unit (s := S1x4096) ![0, 2304] S1x128.size inb_S1x4096_S1x128_0_2304))⟩,
   ⟨Rect.unit (s := S32x4096) ![0, 2176] S32x128.size inb_S32x4096_S32x128_0_2176, yTile 64#32 (View.ld ae (Rect.unit (s := S32x2048) ![0, 1024] S32x128.size inb_S32x2048_S32x128_0_1024)) (View.ld ao (Rect.unit (s := S32x2048) ![0, 1024] S32x128.size inb_S32x2048_S32x128_0_1024)) (View.ld sd (Rect.unit (s := S1x4096) ![0, 2176] S1x128.size inb_S1x4096_S1x128_0_2176))⟩,
   ⟨Rect.unit (s := S32x4096) ![0, 2048] S32x128.size inb_S32x4096_S32x128_0_2048, yTile 0#32 (View.ld ae (Rect.unit (s := S32x2048) ![0, 1024] S32x128.size inb_S32x2048_S32x128_0_1024)) (View.ld ao (Rect.unit (s := S32x2048) ![0, 1024] S32x128.size inb_S32x2048_S32x128_0_1024)) (View.ld sd (Rect.unit (s := S1x4096) ![0, 2048] S1x128.size inb_S1x4096_S1x128_0_2048))⟩,
   ⟨Rect.unit (s := S32x4096) ![0, 1920] S32x128.size inb_S32x4096_S32x128_0_1920, yTile 64#32 (View.ld ae (Rect.unit (s := S32x2048) ![0, 896] S32x128.size inb_S32x2048_S32x128_0_896)) (View.ld ao (Rect.unit (s := S32x2048) ![0, 896] S32x128.size inb_S32x2048_S32x128_0_896)) (View.ld sd (Rect.unit (s := S1x4096) ![0, 1920] S1x128.size inb_S1x4096_S1x128_0_1920))⟩,
   ⟨Rect.unit (s := S32x4096) ![0, 1792] S32x128.size inb_S32x4096_S32x128_0_1792, yTile 0#32 (View.ld ae (Rect.unit (s := S32x2048) ![0, 896] S32x128.size inb_S32x2048_S32x128_0_896)) (View.ld ao (Rect.unit (s := S32x2048) ![0, 896] S32x128.size inb_S32x2048_S32x128_0_896)) (View.ld sd (Rect.unit (s := S1x4096) ![0, 1792] S1x128.size inb_S1x4096_S1x128_0_1792))⟩,
   ⟨Rect.unit (s := S32x4096) ![0, 1664] S32x128.size inb_S32x4096_S32x128_0_1664, yTile 64#32 (View.ld ae (Rect.unit (s := S32x2048) ![0, 768] S32x128.size inb_S32x2048_S32x128_0_768)) (View.ld ao (Rect.unit (s := S32x2048) ![0, 768] S32x128.size inb_S32x2048_S32x128_0_768)) (View.ld sd (Rect.unit (s := S1x4096) ![0, 1664] S1x128.size inb_S1x4096_S1x128_0_1664))⟩,
   ⟨Rect.unit (s := S32x4096) ![0, 1536] S32x128.size inb_S32x4096_S32x128_0_1536, yTile 0#32 (View.ld ae (Rect.unit (s := S32x2048) ![0, 768] S32x128.size inb_S32x2048_S32x128_0_768)) (View.ld ao (Rect.unit (s := S32x2048) ![0, 768] S32x128.size inb_S32x2048_S32x128_0_768)) (View.ld sd (Rect.unit (s := S1x4096) ![0, 1536] S1x128.size inb_S1x4096_S1x128_0_1536))⟩,
   ⟨Rect.unit (s := S32x4096) ![0, 1408] S32x128.size inb_S32x4096_S32x128_0_1408, yTile 64#32 (View.ld ae (Rect.unit (s := S32x2048) ![0, 640] S32x128.size inb_S32x2048_S32x128_0_640)) (View.ld ao (Rect.unit (s := S32x2048) ![0, 640] S32x128.size inb_S32x2048_S32x128_0_640)) (View.ld sd (Rect.unit (s := S1x4096) ![0, 1408] S1x128.size inb_S1x4096_S1x128_0_1408))⟩,
   ⟨Rect.unit (s := S32x4096) ![0, 1280] S32x128.size inb_S32x4096_S32x128_0_1280, yTile 0#32 (View.ld ae (Rect.unit (s := S32x2048) ![0, 640] S32x128.size inb_S32x2048_S32x128_0_640)) (View.ld ao (Rect.unit (s := S32x2048) ![0, 640] S32x128.size inb_S32x2048_S32x128_0_640)) (View.ld sd (Rect.unit (s := S1x4096) ![0, 1280] S1x128.size inb_S1x4096_S1x128_0_1280))⟩,
   ⟨Rect.unit (s := S32x4096) ![0, 1152] S32x128.size inb_S32x4096_S32x128_0_1152, yTile 64#32 (View.ld ae (Rect.unit (s := S32x2048) ![0, 512] S32x128.size inb_S32x2048_S32x128_0_512)) (View.ld ao (Rect.unit (s := S32x2048) ![0, 512] S32x128.size inb_S32x2048_S32x128_0_512)) (View.ld sd (Rect.unit (s := S1x4096) ![0, 1152] S1x128.size inb_S1x4096_S1x128_0_1152))⟩,
   ⟨Rect.unit (s := S32x4096) ![0, 1024] S32x128.size inb_S32x4096_S32x128_0_1024, yTile 0#32 (View.ld ae (Rect.unit (s := S32x2048) ![0, 512] S32x128.size inb_S32x2048_S32x128_0_512)) (View.ld ao (Rect.unit (s := S32x2048) ![0, 512] S32x128.size inb_S32x2048_S32x128_0_512)) (View.ld sd (Rect.unit (s := S1x4096) ![0, 1024] S1x128.size inb_S1x4096_S1x128_0_1024))⟩,
   ⟨Rect.unit (s := S32x4096) ![0, 896] S32x128.size inb_S32x4096_S32x128_0_896, yTile 64#32 (View.ld ae (Rect.unit (s := S32x2048) ![0, 384] S32x128.size inb_S32x2048_S32x128_0_384)) (View.ld ao (Rect.unit (s := S32x2048) ![0, 384] S32x128.size inb_S32x2048_S32x128_0_384)) (View.ld sd (Rect.unit (s := S1x4096) ![0, 896] S1x128.size inb_S1x4096_S1x128_0_896))⟩,
   ⟨Rect.unit (s := S32x4096) ![0, 768] S32x128.size inb_S32x4096_S32x128_0_768, yTile 0#32 (View.ld ae (Rect.unit (s := S32x2048) ![0, 384] S32x128.size inb_S32x2048_S32x128_0_384)) (View.ld ao (Rect.unit (s := S32x2048) ![0, 384] S32x128.size inb_S32x2048_S32x128_0_384)) (View.ld sd (Rect.unit (s := S1x4096) ![0, 768] S1x128.size inb_S1x4096_S1x128_0_768))⟩,
   ⟨Rect.unit (s := S32x4096) ![0, 640] S32x128.size inb_S32x4096_S32x128_0_640, yTile 64#32 (View.ld ae (Rect.unit (s := S32x2048) ![0, 256] S32x128.size inb_S32x2048_S32x128_0_256)) (View.ld ao (Rect.unit (s := S32x2048) ![0, 256] S32x128.size inb_S32x2048_S32x128_0_256)) (View.ld sd (Rect.unit (s := S1x4096) ![0, 640] S1x128.size inb_S1x4096_S1x128_0_640))⟩,
   ⟨Rect.unit (s := S32x4096) ![0, 512] S32x128.size inb_S32x4096_S32x128_0_512, yTile 0#32 (View.ld ae (Rect.unit (s := S32x2048) ![0, 256] S32x128.size inb_S32x2048_S32x128_0_256)) (View.ld ao (Rect.unit (s := S32x2048) ![0, 256] S32x128.size inb_S32x2048_S32x128_0_256)) (View.ld sd (Rect.unit (s := S1x4096) ![0, 512] S1x128.size inb_S1x4096_S1x128_0_512))⟩,
   ⟨Rect.unit (s := S32x4096) ![0, 384] S32x128.size inb_S32x4096_S32x128_0_384, yTile 64#32 (View.ld ae (Rect.unit (s := S32x2048) ![0, 128] S32x128.size inb_S32x2048_S32x128_0_128)) (View.ld ao (Rect.unit (s := S32x2048) ![0, 128] S32x128.size inb_S32x2048_S32x128_0_128)) (View.ld sd (Rect.unit (s := S1x4096) ![0, 384] S1x128.size inb_S1x4096_S1x128_0_384))⟩,
   ⟨Rect.unit (s := S32x4096) ![0, 256] S32x128.size inb_S32x4096_S32x128_0_256, yTile 0#32 (View.ld ae (Rect.unit (s := S32x2048) ![0, 128] S32x128.size inb_S32x2048_S32x128_0_128)) (View.ld ao (Rect.unit (s := S32x2048) ![0, 128] S32x128.size inb_S32x2048_S32x128_0_128)) (View.ld sd (Rect.unit (s := S1x4096) ![0, 256] S1x128.size inb_S1x4096_S1x128_0_256))⟩,
   ⟨Rect.unit (s := S32x4096) ![0, 128] S32x128.size inb_S32x4096_S32x128_0_128, yTile 64#32 (View.ld ae (Rect.unit (s := S32x2048) ![0, 0] S32x128.size inb_S32x2048_S32x128_0_0)) (View.ld ao (Rect.unit (s := S32x2048) ![0, 0] S32x128.size inb_S32x2048_S32x128_0_0)) (View.ld sd (Rect.unit (s := S1x4096) ![0, 128] S1x128.size inb_S1x4096_S1x128_0_128))⟩,
   ⟨Rect.unit (s := S32x4096) ![0, 0] S32x128.size inb_S32x4096_S32x128_0_0, yTile 0#32 (View.ld ae (Rect.unit (s := S32x2048) ![0, 0] S32x128.size inb_S32x2048_S32x128_0_0)) (View.ld ao (Rect.unit (s := S32x2048) ![0, 0] S32x128.size inb_S32x2048_S32x128_0_0)) (View.ld sd (Rect.unit (s := S1x4096) ![0, 0] S1x128.size inb_S1x4096_S1x128_0_0))⟩]

/-- The array `y` the last step leaves. -/
def yOut (ae ao : Vec F S32x2048 .f32) (sd : Vec F S1x4096 .f32) : Vec F S32x4096 .bf16 := View.canon (yPieces ae ao sd)

/-- They cover the array: 32 tiles of 128 lanes. -/
theorem yPieces_cover (ae ao : Vec F S32x2048 .f32) (sd : Vec F S1x4096 .f32) (y : S32x4096.Idx) : ∃ p ∈ yPieces ae ao sd, y ∈ p.1.set :=
  View.cover_of_tiledL (yPieces ae ao sd) S32x128.size (by sl_kernel_rfl) y

/-- A buffer those stores were made into reads `yOut`. -/
theorem read_yOut {sg : RefSig} {κ : Kind} {sp : Space} (v : View sg κ sp S32x4096 .bf16) (f : v.ty.Contents (Elt F))
    (L : List (View.Piece (Elt F) S32x4096 .bf16)) (ae ao : Vec F S32x2048 .f32) (sd : Vec F S1x4096 .f32)
    (h : L = yPieces ae ao sd) : v.read (Elt F) (v.writes (Elt F) f L) = yOut ae ao sd := by
  subst h; exact View.read_writes_eq_canon v f _ (yPieces_cover ae ao sd)

end Cert.KernelIdeal.Body

end
-- ==== Proof.KernelIdeal.First.lean ====
module

public import proofs.«01_k».proof.Proof.KernelIdeal.Blocks

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first step: it stores the codes and scales and clears both accumulators before the middle step's work. -/
theorem triple_first (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : k0_cond1 i = 1#1) (hc1 : ¬k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (y0 : Vec F S32x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare (hBlock i (codesOf x0) (scalesOf x0) x1 x2 x3) ∗ owns (c : Thread nD τ) arg9 fullShare (codesOf x0) ∗ owns (c : Thread nD τ) arg10 fullShare (scalesOf x0) ∗ owns (c : Thread nD τ) arg11 fullShare (evenStep (hBlock i (codesOf x0) (scalesOf x0) x1 x2 x3) x4 k0_pay161) ∗ owns (c : Thread nD τ) arg12 fullShare (oddStep (hBlock i (codesOf x0) (scalesOf x0) x1 x2 x3) x4 k0_pay162)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton, k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H9]
    · iexists _; isplitr; swap; · iexact H9
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H10]
    · iexists _; isplitr; swap; · iexact H10
      ipureintro; sl_unfold_words; rw [View.read_writes_full]; simp only [readAt_held, readCov_S32x4096, readCov_S32x128, readCov_S32x2048, ld_S32x4096, ld_S4096x512, ld_S512x2048, ld_S32x2048, ld_S32x128, ld_x]; rfl
    isplitl [H11]
    · iexists _; isplitr; swap; · iexact H11
      ipureintro; sl_unfold_words; rw [View.read_writes_full]; simp only [readAt_held, readCov_S32x4096, readCov_S32x128, readCov_S32x2048, ld_S32x4096, ld_S4096x512, ld_S512x2048, ld_S32x2048, ld_S32x128, ld_x]; rfl
    iexists _; isplitr; swap; · iexact H12
    ipureintro; sl_unfold_words; rw [View.read_writes_full]; simp only [readAt_held, readCov_S32x4096, readCov_S32x128, readCov_S32x2048, ld_S32x4096, ld_S4096x512, ld_S512x2048, ld_S32x2048, ld_S32x128, ld_x]; rfl

end Cert.KernelIdeal.Body

end
-- ==== Proof.KernelIdeal.Middle.lean ====
module

public import proofs.«01_k».proof.Proof.KernelIdeal.Blocks

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- A middle step: it finds the codes and scales, stores its block of `h` and adds to both accumulators. -/
theorem triple_middle (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : ¬k0_cond1 i = 1#1) (hc1 : ¬k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (xc : Vec F S32x4096 .fp8e4m3) (xs : Vec F S32x128 .f32) (ae ao : Vec F S32x2048 .f32) (y0 : Vec F S32x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ (∃ d, owns (c : Thread nD τ) arg8 fullShare d) ∗ owns (c : Thread nD τ) arg9 fullShare xc ∗ owns (c : Thread nD τ) arg10 fullShare xs ∗ owns (c : Thread nD τ) arg11 fullShare ae ∗ owns (c : Thread nD τ) arg12 fullShare ao
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare (hBlock i xc xs x1 x2 x3) ∗ owns (c : Thread nD τ) arg9 fullShare xc ∗ owns (c : Thread nD τ) arg10 fullShare xs ∗ owns (c : Thread nD τ) arg11 fullShare (evenStep (hBlock i xc xs x1 x2 x3) x4 ae) ∗ owns (c : Thread nD τ) arg12 fullShare (oddStep (hBlock i xc xs x1 x2 x3) x4 ao)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; swap; · iexact H8
      ipureintro; sl_unfold_words; rw [View.read_writes_full]; simp only [readAt_held, ld_S32x4096, ld_S4096x512, ld_S512x2048, ld_S32x2048, ld_S32x128, ld_x]; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; sl_unfold_words; rw [View.read_writes_full]; simp only [readAt_held, ld_S32x4096, ld_S4096x512, ld_S512x2048, ld_S32x2048, ld_S32x128, ld_x]; rfl
    iexists _; isplitr; swap; · iexact H12
    ipureintro; sl_unfold_words; rw [View.read_writes_full]; simp only [readAt_held, ld_S32x4096, ld_S4096x512, ld_S512x2048, ld_S32x2048, ld_S32x128, ld_x]; rfl

end Cert.KernelIdeal.Body

end
-- ==== Proof.KernelIdeal.Last.lean ====
module

public import proofs.«01_k».proof.Proof.KernelIdeal.Blocks

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3200000 in
/-- The last step: the middle step's work, then the 32 output tiles from the finished accumulators. -/
theorem triple_last (c : Dev nD) (i : grid0.Coords) (arg1 : Memref sig .tc .vmem S32x4096 .bf16) (harg1 : arg1.IsWhole) (arg2 : Memref sig .tc .vmem S4096x512 .fp8e4m3) (harg2 : arg2.IsWhole) (arg3 : Memref sig .tc .vmem S1x14336 .f32) (harg3 : arg3.IsWhole) (arg4 : Memref sig .tc .vmem S1x14336 .f32) (harg4 : arg4.IsWhole) (arg5 : Memref sig .tc .vmem S512x2048 .i8) (harg5 : arg5.IsWhole) (arg6 : Memref sig .tc .vmem S1x4096 .f32) (harg6 : arg6.IsWhole) (arg7 : Memref sig .tc .vmem S32x4096 .bf16) (harg7 : arg7.IsWhole) (arg8 : Memref sig .tc .vmem S32x512 .bf16) (harg8 : arg8.IsWhole) (arg9 : Memref sig .tc .vmem S32x4096 .fp8e4m3) (harg9 : arg9.IsWhole) (arg10 : Memref sig .tc .vmem S32x128 .f32) (harg10 : arg10.IsWhole) (arg11 : Memref sig .tc .vmem S32x2048 .f32) (harg11 : arg11.IsWhole) (arg12 : Memref sig .tc .vmem S32x2048 .f32) (harg12 : arg12.IsWhole) (hc0 : ¬k0_cond1 i = 1#1) (hc1 : k0_cond2 i = 1#1)
    (x0 : Vec F S32x4096 .bf16) (x1 : Vec F S4096x512 .fp8e4m3) (x2 : Vec F S1x14336 .f32) (x3 : Vec F S1x14336 .f32) (x4 : Vec F S512x2048 .i8) (x5 : Vec F S1x4096 .f32) (xc : Vec F S32x4096 .fp8e4m3) (xs : Vec F S32x128 .f32) (ae ao : Vec F S32x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xc ∗ owns (c : Thread nD τ) arg10 fullShare xs ∗ owns (c : Thread nD τ) arg11 fullShare ae ∗ owns (c : Thread nD τ) arg12 fullShare ao
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (yOut (evenStep (hBlock i xc xs x1 x2 x3) x4 ae) (oddStep (hBlock i xc xs x1 x2 x3) x4 ao) x5) ∗ owns (c : Thread nD τ) arg8 fullShare (hBlock i xc xs x1 x2 x3) ∗ owns (c : Thread nD τ) arg9 fullShare xc ∗ owns (c : Thread nD τ) arg10 fullShare xs ∗ owns (c : Thread nD τ) arg11 fullShare (evenStep (hBlock i xc xs x1 x2 x3) x4 ae) ∗ owns (c : Thread nD τ) arg12 fullShare (oddStep (hBlock i xc xs x1 x2 x3) x4 ao)) -∗ K ⟨⟩))
          ⊢ wp frame (wpE (defs₀ (F := F)) Variants.none c none) E (cc0_relu_mlp i arg1 harg1 arg2 harg2 arg3 harg3 arg4 harg4 arg5 harg5 arg6 harg6 arg7 harg7 arg8 harg8 arg9 harg9 arg10 harg10 arg11 harg11 arg12 harg12) K := by
    simp only [cc0_relu_mlp_eq_skeleton]; unfold cc0_relu_mlp_skel
    simp only [k0_part52_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro; refine read_yOut _ _ _ _ _ _ ?_
      sl_unfold_words
      simp only [readAt_held, readCov_S32x4096, readCov_S32x128, readCov_S32x2048, ld_S32x4096, ld_S4096x512, ld_S512x2048, ld_S32x2048, ld_S32x128, ld_x]
      unfold yPieces
      repeat' first | (refine congrArg₂ List.cons ?_ ?_) | rfl
    isplitl [H8]
    · iexists _; isplitr; swap; · iexact H8
      ipureintro; sl_unfold_words; rw [View.read_writes_full]; simp only [readAt_held, ld_S32x4096, ld_S4096x512, ld_S512x2048, ld_S32x2048, ld_S32x128, ld_x]; rfl
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; sl_unfold_words; rw [View.read_writes_full]; simp only [readAt_held, ld_S32x4096, ld_S4096x512, ld_S512x2048, ld_S32x2048, ld_S32x128, ld_x]; rfl
    iexists _; isplitr; swap; · iexact H12
    ipureintro; sl_unfold_words; rw [View.read_writes_full]; simp only [readAt_held, ld_S32x4096, ld_S4096x512, ld_S512x2048, ld_S32x2048, ld_S32x128, ld_x]; rfl

end Cert.KernelIdeal.Body

end
-- ==== Proof.KernelIdeal.Frame.lean ====
module

public import proofs.«01_k».proof.Proof.KernelIdeal.First
public import proofs.«01_k».proof.Proof.KernelIdeal.Middle
public import proofs.«01_k».proof.Proof.KernelIdeal.Last
public import proofs.«01_k».proof.Proof.Gen.KernelIdeal.Points
public import Idealize.ShloMosaic.Lib.Pipeline.TableIdle
public import Idealize.ShloMosaic.Lib.Claim

@[expose] public section

set_option maxRecDepth 16384

noncomputable section

namespace Cert.KernelIdeal.Body

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! # The whole run: what every buffer holds after each grid step -/

/-! ## Which case a grid step is in -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem last_iff : ∀ t : Fin cfg0.N, k0_cond2 (grid0.coords t) = 1#1 ↔ t.val = 27 :=
  (by decide +kernel : ∀ t : Fin grid0.N, k0_cond2 (grid0.coords t) = 1#1 ↔ t.val = 27)

theorem idle_6 : ∀ t : Fin cfg0.N, t.val ≠ 27 → cfg0.idle 6 (grid0.coords t) = true := by decide +kernel
theorem live_6 : ∀ t : Fin cfg0.N, t.val = 27 → cfg0.idle 6 (grid0.coords t) = false := by decide +kernel
theorem noFlush_6 : ∀ t : Fin cfg0.N, t.val ≠ 27 → (cfg0.win 6).flush t = false := by decide +kernel
theorem live_8 : ∀ t : Fin cfg0.N, t.val = 0 → cfg0.idle 8 (grid0.coords t) = false := by decide +kernel
theorem idle_8 : ∀ t : Fin cfg0.N, t.val ≠ 0 → cfg0.idle 8 (grid0.coords t) = true := by decide +kernel
theorem noFlush_8 : ∀ t : Fin cfg0.N, t.val ≠ 27 → (cfg0.win 8).flush t = false := by decide +kernel
theorem flush_8 : ∀ t : Fin cfg0.N, t.val = 27 → (cfg0.win 8).flush t = true := by decide +kernel
theorem fresh_8 : ∀ t : Fin cfg0.N, t.val ≠ 0 → cfg0.fresh 8 t.val = false := by decide +kernel
theorem live_9 : ∀ t : Fin cfg0.N, t.val = 0 → cfg0.idle 9 (grid0.coords t) = false := by decide +kernel
theorem idle_9 : ∀ t : Fin cfg0.N, t.val ≠ 0 → cfg0.idle 9 (grid0.coords t) = true := by decide +kernel
theorem noFlush_9 : ∀ t : Fin cfg0.N, t.val ≠ 27 → (cfg0.win 9).flush t = false := by decide +kernel
theorem flush_9 : ∀ t : Fin cfg0.N, t.val = 27 → (cfg0.win 9).flush t = true := by decide +kernel
theorem fresh_9 : ∀ t : Fin cfg0.N, t.val ≠ 0 → cfg0.fresh 9 t.val = false := by decide +kernel

/-! ## The buffers a step works on -/

abbrev buf0 (t : Fin cfg0.N) : Memref sig .tc .vmem S32x4096 .bf16 := win0_0.stage (cfg0.slots t 0)
abbrev buf1 (t : Fin cfg0.N) : Memref sig .tc .vmem S4096x512 .fp8e4m3 := win0_1.stage (cfg0.slots t 1)
abbrev buf2 (t : Fin cfg0.N) : Memref sig .tc .vmem S1x14336 .f32 := win0_2.stage (cfg0.slots t 2)
abbrev buf3 (t : Fin cfg0.N) : Memref sig .tc .vmem S1x14336 .f32 := win0_3.stage (cfg0.slots t 3)
abbrev buf4 (t : Fin cfg0.N) : Memref sig .tc .vmem S512x2048 .i8 := win0_4.stage (cfg0.slots t 4)
abbrev buf5 (t : Fin cfg0.N) : Memref sig .tc .vmem S1x4096 .f32 := win0_5.stage (cfg0.slots t 5)
abbrev buf6 (t : Fin cfg0.N) : Memref sig .tc .vmem S32x4096 .bf16 := win0_6.stage (cfg0.slots t 6)
abbrev buf7 (t : Fin cfg0.N) : Memref sig .tc .vmem S32x512 .bf16 := win0_7.stage (cfg0.slots t 7)
abbrev buf8 (t : Fin cfg0.N) : Memref sig .tc .vmem S32x4096 .fp8e4m3 := win0_8.stage (cfg0.slots t 8)
abbrev buf9 (t : Fin cfg0.N) : Memref sig .tc .vmem S32x128 .f32 := win0_9.stage (cfg0.slots t 9)

abbrev accE : Memref sig .tc .vmem S32x2048 .f32 := Memref.whole cc0_scratch0
abbrev accO : Memref sig .tc .vmem S32x2048 .f32 := Memref.whole cc0_scratch1

/-- What the launch hands the region, with the two accumulators as buffers owned at some contents. -/
theorem start_eq (c : Dev nD) :
    (Pipeline.ΦA spec0 c : sProp 𝕄)
      = iprop(iprop((∃ d, owns (c : Thread nD τ) accE fullShare d) ∗ (∃ d, owns (c : Thread nD τ) accO fullShare d)) ∗ (∃ r, prngReg c r)) := by
  unfold Pipeline.ΦA; rw [scopedRest0_eq]; simp only [accE, accO, owns_whole]; try rfl

/-! ## The contents, step by step -/

/-- The first grid step. -/
def t0 : Fin cfg0.N := ⟨0, by rw [show cfg0.N = 28 from N_0]; omega⟩

/-- The codes of the activations. -/
def codes (c : Dev nD) : Vec F S32x4096 .fp8e4m3 := codesOf (iblk m c 0 t0)

/-- The scales of the activations' rows, in every lane. -/
def scales (c : Dev nD) : Vec F S32x128 .f32 := scalesOf (iblk m c 0 t0)

/-- The block of `h` of step `t`. -/
def hAt (c : Dev nD) (t : Fin cfg0.N) : Vec F S32x512 .bf16 :=
  hBlock (grid0.coords t) (codes m c) (scales m c) (iblk m c 1 t) (iblk m c 2 t) (iblk m c 3 t)

/-- The even-column accumulator before step `n` (cleared before the first). -/
def evenAt (c : Dev nD) : ℕ → Vec F S32x2048 .f32
  | 0 => k0_pay161
  | n + 1 => if h : n < cfg0.N then evenStep (hAt m c ⟨n, h⟩) (iblk m c 4 ⟨n, h⟩) (evenAt c n) else evenAt c n

/-- The odd-column accumulator before step `n`. -/
def oddAt (c : Dev nD) : ℕ → Vec F S32x2048 .f32
  | 0 => k0_pay162
  | n + 1 => if h : n < cfg0.N then oddStep (hAt m c ⟨n, h⟩) (iblk m c 4 ⟨n, h⟩) (oddAt c n) else oddAt c n

theorem evenAt_succ (c : Dev nD) (t : Fin cfg0.N) : evenAt m c (t.val + 1) = evenStep (hAt m c t) (iblk m c 4 t) (evenAt m c t.val) :=
  dif_pos t.isLt
theorem oddAt_succ (c : Dev nD) (t : Fin cfg0.N) : oddAt m c (t.val + 1) = oddStep (hAt m c t) (iblk m c 4 t) (oddAt m c t.val) :=
  dif_pos t.isLt

/-- The output tiles, were they stored after step `t` (they are after the last). -/
def yAfter (c : Dev nD) (t : Fin cfg0.N) : Vec F S32x4096 .bf16 := yOut (evenAt m c (t.val + 1)) (oddAt m c (t.val + 1)) (iblk m c 5 t)

/-- What holds between steps: both accumulators at their partial sums. -/
def between (c : Dev nD) : ℕ → sProp 𝕄
  | 0 => Pipeline.ΦA spec0 c
  | n + 1 => iprop(iprop(owns (c : Thread nD τ) accE fullShare (evenAt m c (n + 1)) ∗ owns (c : Thread nD τ) accO fullShare (oddAt m c (n + 1))) ∗ (∃ r, prngReg c r))

theorem between_zero (c : Dev nD) (n : ℕ) (hz : n = 0) : between m c n = Pipeline.ΦA spec0 c := by subst hz; rfl
theorem between_succ (c : Dev nD) (n : ℕ) :
    between m c (n + 1) = iprop(iprop(owns (c : Thread nD τ) accE fullShare (evenAt m c (n + 1)) ∗ owns (c : Thread nD τ) accO fullShare (oddAt m c (n + 1))) ∗ (∃ r, prngReg c r)) := rfl
theorem between_pos (c : Dev nD) (n : ℕ) (hz : n ≠ 0) :
    between m c n = iprop(iprop(owns (c : Thread nD τ) accE fullShare (evenAt m c n) ∗ owns (c : Thread nD τ) accO fullShare (oddAt m c n)) ∗ (∃ r, prngReg c r)) := by
  cases n with
  | zero => exact absurd rfl hz
  | succ n => rfl

/-- The proof data: the arrays as the region finds them, what each buffer holds after step `t`, and `between`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAfter m c t
    | ⟨7, _⟩ => hAt m c t
    | ⟨8, _⟩ => codes m c
    | ⟨9, _⟩ => scales m c
  Φ t := between m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = yAfter m c t := by dsimp only [dats]
theorem after_7 (c : Dev nD) (t : Fin cfg0.N) : (dats m 0 c).after 7 t = hAt m c t := by dsimp only [dats]
theorem after_8 (c : Dev nD) (t : Fin cfg0.N) : (dats m 0 c).after 8 t = codes m c := by dsimp only [dats]
theorem after_9 (c : Dev nD) (t : Fin cfg0.N) : (dats m 0 c).after 9 t = scales m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- After the first step the codes stay where they were stored. -/
theorem before_8 (c : Dev nD) (t : Fin cfg0.N) (ht : t.val ≠ 0) (d) : (dats m 0 c).before 8 t d = codes m c := by
  rw [(dats m 0 c).before_out_traj 8 rfl (fun _ _ => rfl) (fun t _ _ _ => by rw [after_8, after_8]) t.val t rfl d, fresh_8 t ht, after_8]
  exact if_neg Bool.false_ne_true
/-- After the first step the scales stay where they were stored. -/
theorem before_9 (c : Dev nD) (t : Fin cfg0.N) (ht : t.val ≠ 0) (d) : (dats m 0 c).before 9 t d = scales m c := by
  rw [(dats m 0 c).before_out_traj 9 rfl (fun _ _ => rfl) (fun t _ _ _ => by rw [after_9, after_9]) t.val t rfl d, fresh_9 t ht, after_9]
  exact if_neg Bool.false_ne_true

/-! ## Every step meets its obligation -/

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3200000 in
/-- The body at any step, by the three triples. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = between m c (t.val + 1) from rfl, between_succ, evenAt_succ, oddAt_succ]
  rw [show (dats m 0 c).Φ t.castSucc = between m c t.val from rfl]
  have hN : t.val < 28 := lt_of_lt_of_eq t.isLt (show cfg0.N = 28 from N_0)
  by_cases h0 : t.val = 0
  · have h1 : t.val ≠ 27 := by omega
    rw [show (dats m 0 c).leavesExact 0 t = owns (c : Thread nD τ) (buf0 t) fullShare ((dats m 0 c).after 0 t) from by
      unfold Dat.leavesExact; rw [(rfl : cfg0.idle 0 (grid0.coords t) = false)], after_0]
    rw [show (dats m 0 c).leavesExact 1 t = owns (c : Thread nD τ) (buf1 t) fullShare ((dats m 0 c).after 1 t) from by
      unfold Dat.leavesExact; rw [(rfl : cfg0.idle 1 (grid0.coords t) = false)], after_1]
    rw [show (dats m 0 c).leavesExact 2 t = owns (c : Thread nD τ) (buf2 t) fullShare ((dats m 0 c).after 2 t) from by
      unfold Dat.leavesExact; rw [(rfl : cfg0.idle 2 (grid0.coords t) = false)], after_2]
    rw [show (dats m 0 c).leavesExact 3 t = owns (c : Thread nD τ) (buf3 t) fullShare ((dats m 0 c).after 3 t) from by
      unfold Dat.leavesExact; rw [(rfl : cfg0.idle 3 (grid0.coords t) = false)], after_3]
    rw [show (dats m 0 c).leavesExact 4 t = owns (c : Thread nD τ) (buf4 t) fullShare ((dats m 0 c).after 4 t) from by
      unfold Dat.leavesExact; rw [(rfl : cfg0.idle 4 (grid0.coords t) = false)], after_4]
    rw [show (dats m 0 c).leavesExact 5 t = owns (c : Thread nD τ) (buf5 t) fullShare ((dats m 0 c).after 5 t) from by
      unfold Dat.leavesExact; rw [(rfl : cfg0.idle 5 (grid0.coords t) = false)], after_5]
    rw [Dat.leavesExact_idle (dats m 0 c) 6 t (idle_6 t h1) (noFlush_6 t h1)]
    rw [show (dats m 0 c).leavesExact 7 t = owns (c : Thread nD τ) (buf7 t) fullShare ((dats m 0 c).after 7 t) from by
      unfold Dat.leavesExact; rw [(rfl : cfg0.idle 7 (grid0.coords t) = false)], after_7]
    rw [show (dats m 0 c).leavesExact 8 t = owns (c : Thread nD τ) (buf8 t) fullShare ((dats m 0 c).after 8 t) from by
      unfold Dat.leavesExact; rw [live_8 t h0], after_8]
    rw [show (dats m 0 c).leavesExact 9 t = owns (c : Thread nD τ) (buf9 t) fullShare ((dats m 0 c).after 9 t) from by
      unfold Dat.leavesExact; rw [live_9 t h0], after_9]
    rw [between_zero m c _ h0, start_eq]
    have ht : t = t0 := Fin.ext h0
    rw [show hAt m c t = hBlock (grid0.coords t) (codesOf (iblk m c 0 t)) (scalesOf (iblk m c 0 t)) (iblk m c 1 t) (iblk m c 2 t) (iblk m c 3 t) from by rw [ht]; rfl]
    rw [show codes m c = codesOf (iblk m c 0 t) from by rw [ht]; rfl, show scales m c = scalesOf (iblk m c 0 t) from by rw [ht]; rfl]
    rw [show evenAt m c t.val = k0_pay161 from by rw [h0]; rfl, show oddAt m c t.val = k0_pay162 from by rw [h0]; rfl]
    iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (triple_first c (grid0.coords t) _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HE]; · iexact HE
    isplitl [HO]; · iexact HO
    iintro ⟨H0, H1, H2, H3, H4, H5, H6, H7, H8, H9, HE, HO⟩
    isplitl [HE HO Hg]
    · isplitl [HE HO]
      · isplitl [HE]; · iexact HE
        iexact HO
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iexact H9
  · rw [between_pos m c _ h0]
    rw [show hAt m c t = hBlock (grid0.coords t) (codes m c) (scales m c) (iblk m c 1 t) (iblk m c 2 t) (iblk m c 3 t) from rfl]
    simp only [before_8 m c t h0, before_9 m c t h0]
    rw [show (dats m 0 c).leavesExact 0 t = owns (c : Thread nD τ) (buf0 t) fullShare ((dats m 0 c).after 0 t) from by
      unfold Dat.leavesExact; rw [(rfl : cfg0.idle 0 (grid0.coords t) = false)], after_0]
    rw [show (dats m 0 c).leavesExact 1 t = owns (c : Thread nD τ) (buf1 t) fullShare ((dats m 0 c).after 1 t) from by
      unfold Dat.leavesExact; rw [(rfl : cfg0.idle 1 (grid0.coords t) = false)], after_1]
    rw [show (dats m 0 c).leavesExact 2 t = owns (c : Thread nD τ) (buf2 t) fullShare ((dats m 0 c).after 2 t) from by
      unfold Dat.leavesExact; rw [(rfl : cfg0.idle 2 (grid0.coords t) = false)], after_2]
    rw [show (dats m 0 c).leavesExact 3 t = owns (c : Thread nD τ) (buf3 t) fullShare ((dats m 0 c).after 3 t) from by
      unfold Dat.leavesExact; rw [(rfl : cfg0.idle 3 (grid0.coords t) = false)], after_3]
    rw [show (dats m 0 c).leavesExact 4 t = owns (c : Thread nD τ) (buf4 t) fullShare ((dats m 0 c).after 4 t) from by
      unfold Dat.leavesExact; rw [(rfl : cfg0.idle 4 (grid0.coords t) = false)], after_4]
    rw [show (dats m 0 c).leavesExact 5 t = owns (c : Thread nD τ) (buf5 t) fullShare ((dats m 0 c).after 5 t) from by
      unfold Dat.leavesExact; rw [(rfl : cfg0.idle 5 (grid0.coords t) = false)], after_5]
    by_cases h1 : t.val = 27
    · skip
      rw [show (dats m 0 c).leavesExact 6 t = owns (c : Thread nD τ) (buf6 t) fullShare ((dats m 0 c).after 6 t) from by
        unfold Dat.leavesExact; rw [live_6 t h1], after_6]
      rw [show (dats m 0 c).leavesExact 7 t = owns (c : Thread nD τ) (buf7 t) fullShare ((dats m 0 c).after 7 t) from by
        unfold Dat.leavesExact; rw [(rfl : cfg0.idle 7 (grid0.coords t) = false)], after_7]
      rw [show (dats m 0 c).leavesExact 8 t = owns (c : Thread nD τ) (buf8 t) fullShare ((dats m 0 c).after 8 t) from by
        unfold Dat.leavesExact; rw [idle_8 t h0, flush_8 t h1], after_8]
      rw [show (dats m 0 c).leavesExact 9 t = owns (c : Thread nD τ) (buf9 t) fullShare ((dats m 0 c).after 9 t) from by
        unfold Dat.leavesExact; rw [idle_9 t h0, flush_9 t h1], after_9]
      rw [show yAfter m c t = yOut (evenAt m c (t.val + 1)) (oddAt m c (t.val + 1)) (iblk m c 5 t) from rfl, evenAt_succ, oddAt_succ]
      rw [show hAt m c t = hBlock (grid0.coords t) (codes m c) (scales m c) (iblk m c 1 t) (iblk m c 2 t) (iblk m c 3 t) from rfl]
      iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (triple_last c (grid0.coords t) _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (codes m c) (scales m c) (evenAt m c t.val) (oddAt m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [HE]; · iexact HE
      isplitl [HO]; · iexact HO
      iintro ⟨H0, H1, H2, H3, H4, H5, H6, H7, H8, H9, HE, HO⟩
      isplitl [HE HO Hg]
      · isplitl [HE HO]
        · isplitl [HE]; · iexact HE
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · skip
      rw [Dat.leavesExact_idle (dats m 0 c) 6 t (idle_6 t h1) (noFlush_6 t h1)]
      rw [show (dats m 0 c).leavesExact 7 t = owns (c : Thread nD τ) (buf7 t) fullShare ((dats m 0 c).after 7 t) from by
        unfold Dat.leavesExact; rw [(rfl : cfg0.idle 7 (grid0.coords t) = false)], after_7]
      rw [Dat.leavesExact_idle (dats m 0 c) 8 t (idle_8 t h0) (noFlush_8 t h1)]
      rw [Dat.leavesExact_idle (dats m 0 c) 9 t (idle_9 t h0) (noFlush_9 t h1)]
      simp only [before_8 m c t h0, before_9 m c t h0]
      rw [show hAt m c t = hBlock (grid0.coords t) (codes m c) (scales m c) (iblk m c 1 t) (iblk m c 2 t) (iblk m c 3 t) from rfl]
      iintro ⟨⟨⟨HE, HO⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (triple_middle c (grid0.coords t) _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (codes m c) (scales m c) (evenAt m c t.val) (oddAt m c t.val) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HE]; · iexact HE
      isplitl [HO]; · iexact HO
      iintro ⟨H0, H1, H2, H3, H4, H5, H6, H7, H8, H9, HE, HO⟩
      isplitl [HE HO Hg]
      · isplitl [HE HO]
        · isplitl [HE]; · iexact HE
          iexact HO
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists d8; iexact H8
      iexists d9; iexact H9

/-- The body table's row at step `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 from rfl, between_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c (Fin.last cfg0.N).val from rfl,
    between_pos m c _ (by rw [Fin.val_last]; have : cfg0.N = 28 := N_0; omega), start_eq]
  iintro ⟨⟨HE, HO⟩, Hg⟩
  isplitl [HE HO]
  · isplitl [HE]
    · iexists _; iexact HE
    iexists _; iexact HO
  iexact Hg

/-! ## The run -/

set_option backward.isDefEq.respectTransparency.types false in
/-- Every execution ends, with every array at what the proof data says and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiescent m ρ))

end Cert.KernelIdeal.Body

end
-- ==== Proof.Quantiser.lean ====
module

public import Idealize.ShloMosaic.PureOps.Ideal.Laws
public import Idealize.ShloMosaic.Lib.Pipeline.ValueKit
public import Mathlib.Analysis.SpecialFunctions.Log.Basic

@[expose] public section

set_option maxRecDepth 16384

noncomputable section

/-! # The power-of-two quantiser

A row of magnitude `a` is scaled by `2 ^ e`, `e` the least integer with `a · c < 2 ^ e` (`c` the rounded `1 / 448`), and
`e = 0` for a row of zeros. One program finds `e` by counting the 256 floors `2 ^ (k - 127)` that `a · c` reaches, and
builds `2 ^ e` from a shifted word; the other takes `⌊log (a · c) / log 2⌋ + 1` and the power itself. -/

namespace Cert.Quantiser

open Idealize.ShloMosaic

/-- The rounded `1 / 448`. -/
def invMax : EReal := Ideal.ofBits .f32 0x3B124925#32

/-- A row's magnitude: the maximum of the absolute values, from minus infinity. -/
def rowMag {n : ℕ} (x : Fin n → EReal) : EReal :=
  (Finset.univ : Finset (Fin n)).fold max (Ideal.ofBits .f32 0xFF800000#32) fun k => max (x k) (-(x k))

/-- A scaled value clipped to the codes' range. -/
def clip (v : EReal) : EReal := min (Ideal.ofBits .f32 0x43E00000#32) (max (Ideal.ofBits .f32 0xC3E00000#32) v)

/-! ## The exponent by counting -/

/-- The value of the word with biased exponent `k` and no fraction. -/
def level (k : ℕ) : EReal := Ideal.ofBits .f32 (IntOp.shli .vector (BitVec.ofNat 32 k) 23#32)

/-- How many of the 256 levels `t` reaches, as a word. -/
def levelsReached (t : EReal) : BitVec 32 :=
  (Finset.univ : Finset (Fin 256)).fold IntOp.addi 0#32 fun k => if level k.val ≤ t then 1#32 else 0#32

/-- The exponent word of a count of levels. -/
def expOfCount (n : BitVec 32) : BitVec 32 :=
  Scalar.select (IntOp.cmpi .eq (IntOp.subi n 1#32) 0#32) 0#32 (IntOp.subi (IntOp.subi n 1#32) 126#32)

/-- The exponent word of a magnitude times `c`. -/
def expWord (t : EReal) : BitVec 32 := expOfCount (levelsReached t)

/-- The power of two a word names, by its exponent field. -/
def wordPow (e : BitVec 32) : EReal := Ideal.ofBits .f32 (IntOp.shli .vector (IntOp.addi e 127#32) 23#32)

/-- The binary exponent of a positive real. -/
def binLog (r : ℝ) : ℤ := ⌊Real.log r * (1 / Real.log 2)⌋

theorem pow_le_iff (r : ℝ) (hr : 0 < r) (z : ℤ) : (2 : ℝ) ^ z ≤ r ↔ z ≤ binLog r := by
  unfold binLog
  rw [Int.le_floor, mul_one_div, le_div_iff₀ (Real.log_pos (by norm_num)), ← Real.log_zpow,
    Real.log_le_log_iff (by positivity) hr]

theorem lt_pow_iff (r : ℝ) (hr : 0 < r) (z : ℤ) : r < (2 : ℝ) ^ z ↔ binLog r < z := by
  rw [← not_le, ← not_le, pow_le_iff r hr]

theorem level_bits : ∀ k : Fin 256,
    (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem level_zero : level 0 = 0 := by
  have h := level_bits 0
  simp only [Fin.val_zero] at h
  unfold level Ideal.ofBits Ideal.ieee
  simp only [h.1, h.2.1, h.2.2]
  norm_num

theorem level_top : level 255 = ⊤ := by
  have h := level_bits 255
  simp only [show ((255 : Fin 256).val) = 255 from rfl] at h
  unfold level Ideal.ofBits Ideal.ieee
  simp only [h.1, h.2.1, h.2.2]
  norm_num

theorem level_pow (k : ℕ) (h0 : k ≠ 0) (h1 : k < 255) : level k = (((2 : ℝ) ^ ((k : ℤ) - 127) : ℝ) : EReal) := by
  have h := level_bits ⟨k, by omega⟩
  simp only at h
  unfold level Ideal.ofBits Ideal.ieee
  simp only [h.1, h.2.1, h.2.2]
  rw [if_neg (by omega), if_neg h0]
  have e : ((k : ℤ) - (2 ^ (8 - 1) - 1) - (23 : ℕ)) = ((k : ℤ) - 127) + (-23) := by norm_num; ring
  rw [e, zpow_add₀ (by norm_num)]
  congr 1
  norm_num
  ring

theorem fold_count {ι : Type} [DecidableEq ι] (s : Finset ι) (p : ι → Prop) [DecidablePred p] :
    s.fold IntOp.addi 0#32 (fun k => if p k then 1#32 else 0#32) = BitVec.ofNat 32 (s.filter p).card := by
  induction s using Finset.induction_on with
  | empty => rfl
  | insert a s ha ih =>
    rw [Finset.fold_insert ha, ih, Finset.filter_insert]
    by_cases hp : p a
    · rw [if_pos hp, if_pos hp, Finset.card_insert_of_notMem (fun h => ha (Finset.mem_filter.mp h).1)]
      show 1#32 + _ = _
      rw [Nat.add_comm, BitVec.ofNat_add]
    · rw [if_neg hp, if_neg hp]
      show 0#32 + _ = _
      rw [BitVec.zero_add]

/-- A real in the normal range reaches exactly the levels up to its own binary exponent. -/
theorem level_le_iff (r : ℝ) (lo : (2 : ℝ) ^ (-126 : ℤ) ≤ r) (hi : r < (2 : ℝ) ^ (126 : ℤ)) (k : ℕ) (hk : k < 256) :
    level k ≤ (r : EReal) ↔ (k : ℤ) ≤ binLog r + 127 := by
  have hr : 0 < r := lt_of_lt_of_le (by positivity) lo
  have hlo : -126 ≤ binLog r := (pow_le_iff r hr _).mp lo
  have hhi : binLog r < 126 := (lt_pow_iff r hr _).mp hi
  by_cases h0 : k = 0
  · subst h0; rw [level_zero]
    exact ⟨fun _ => by push_cast; omega, fun _ => by exact_mod_cast hr.le⟩
  by_cases h1 : k = 255
  · subst h1; rw [level_top]
    constructor
    · intro h; exact absurd h (not_le.mpr (EReal.coe_lt_top r))
    · intro h; push_cast at h; omega
  rw [level_pow k h0 (by omega), EReal.coe_le_coe_iff]
  rw [pow_le_iff r hr]; omega

theorem levelsReached_real (r : ℝ) (lo : (2 : ℝ) ^ (-126 : ℤ) ≤ r) (hi : r < (2 : ℝ) ^ (126 : ℤ)) :
    levelsReached (r : EReal) = BitVec.ofNat 32 (binLog r + 128).toNat := by
  have hr : 0 < r := lt_of_lt_of_le (by positivity) lo
  have hlo : -126 ≤ binLog r := (pow_le_iff r hr _).mp lo
  have hhi : binLog r < 126 := (lt_pow_iff r hr _).mp hi
  unfold levelsReached
  rw [fold_count]
  congr 1
  have : (Finset.univ.filter fun k : Fin 256 => level k.val ≤ (r : EReal))
      = Finset.Iic (⟨(binLog r + 127).toNat, by omega⟩ : Fin 256) := by
    ext k
    rw [Finset.mem_filter, Finset.mem_Iic, level_le_iff r lo hi k.val k.isLt, Fin.le_def]
    simp only [Finset.mem_univ, true_and]
    omega
  rw [this, Fin.card_Iic]
  simp only
  omega

theorem levelsReached_zero : levelsReached 0 = 1#32 := by
  unfold levelsReached
  rw [fold_count]
  have : (Finset.univ.filter fun k : Fin 256 => level k.val ≤ 0) = {0} := by
    ext k
    rw [Finset.mem_filter, Finset.mem_singleton]
    simp only [Finset.mem_univ, true_and]
    constructor
    · intro h
      by_contra hk
      have hk0 : k.val ≠ 0 := fun h => hk (Fin.ext h)
      by_cases h1 : k.val = 255
      · rw [h1, level_top] at h; exact absurd h (by simp)
      · rw [level_pow k.val hk0 (by omega)] at h
        have : (0 : ℝ) < (2 : ℝ) ^ ((k.val : ℤ) - 127) := by positivity
        exact absurd h (not_le.mpr (by exact_mod_cast this))
    · intro h; subst h; exact le_of_eq level_zero
  rw [this, Finset.card_singleton]

/-! ## The power of two from the word -/

theorem scale_word : ∀ n : Fin 254, 2 ≤ n.val →
    IntOp.shli .vector (IntOp.addi (expOfCount (BitVec.ofNat 32 n.val)) 127#32) 23#32 = IntOp.shli .vector (BitVec.ofNat 32 n.val) 23#32
    ∧ IntOp.shli .vector (IntOp.addi (IntOp.subi 0#32 (expOfCount (BitVec.ofNat 32 n.val))) 127#32) 23#32
      = IntOp.shli .vector (BitVec.ofNat 32 (254 - n.val)) 23#32 := by decide +kernel

theorem scale_real (r : ℝ) (lo : (2 : ℝ) ^ (-126 : ℤ) ≤ r) (hi : r < (2 : ℝ) ^ (126 : ℤ)) :
    wordPow (expWord (r : EReal)) = (((2 : ℝ) ^ (binLog r + 1) : ℝ) : EReal)
    ∧ wordPow (IntOp.subi 0#32 (expWord (r : EReal))) = (((2 : ℝ) ^ (-(binLog r + 1)) : ℝ) : EReal) := by
  have hr : 0 < r := lt_of_lt_of_le (by positivity) lo
  have hlo : -126 ≤ binLog r := (pow_le_iff r hr _).mp lo
  have hhi : binLog r < 126 := (lt_pow_iff r hr _).mp hi
  have h := scale_word ⟨(binLog r + 128).toNat, by omega⟩ (by show 2 ≤ (binLog r + 128).toNat; omega)
  simp only at h
  unfold wordPow expWord
  rw [levelsReached_real r lo hi, h.1, h.2]
  constructor
  · rw [show Ideal.ofBits .f32 _ = level (binLog r + 128).toNat from rfl, level_pow _ (by omega) (by omega)]
    congr 2; omega
  · rw [show Ideal.ofBits .f32 _ = level (254 - (binLog r + 128).toNat) from rfl, level_pow _ (by omega) (by omega)]
    congr 2; omega

theorem scale_zero : wordPow (expWord 0) = 1 ∧ wordPow (IntOp.subi 0#32 (expWord 0)) = 1 := by
  have h1 : level 127 = 1 := by rw [level_pow 127 (by omega) (by omega)]; norm_num
  unfold wordPow expWord
  rw [levelsReached_zero]
  exact ⟨h1, h1⟩

/-! ## The exponent by logarithms -/

/-- The exponent of a row of magnitude `a`: `⌊log (a · c) / log 2⌋ + 1`, or 0 for a row of zeros. -/
def logExp (a : EReal) : EReal :=
  if a = Ideal.ofBits .f32 0x00000000#32 then Ideal.ofBits .f32 0x00000000#32
  else Ideal.liftRound Int.floor (Ideal.div (Ideal.log (a * invMax)) (Ideal.log (Ideal.ofBits .f32 0x40000000#32)))
    + Ideal.ofBits .f32 0x3F800000#32

/-- The rows the two exponents agree on: all zeros, or of a magnitude that is finite in bf16 and normal after scaling. -/
def InRange (a : EReal) : Prop :=
  a = Ideal.ofBits .f32 0x00000000#32 ∨ Ideal.ofBits .f32 0x00800000#32 ≤ a * invMax ∧ a ≤ Ideal.ofBits .f32 0x7F7F0000#32

theorem ofBits_two : Ideal.ofBits .f32 0x40000000#32 = ((2 : ℝ) : EReal) := by
  simp [Ideal.ofBits, Ideal.ieee, -EReal.coe_mul]
  try norm_num [-EReal.coe_mul]
theorem ofBits_one : Ideal.ofBits .f32 0x3F800000#32 = ((1 : ℝ) : EReal) := by
  simp [Ideal.ofBits, Ideal.ieee, -EReal.coe_mul]
  try norm_num [-EReal.coe_mul]
theorem ofBits_tiny : Ideal.ofBits .f32 0x00800000#32 = (((2 : ℝ) ^ (-126 : ℤ) : ℝ) : EReal) := by
  simp [Ideal.ofBits, Ideal.ieee, -EReal.coe_mul]
  try norm_num [-EReal.coe_mul]
theorem ofBits_max : Ideal.ofBits .f32 0x7F7F0000#32 = ((255 * (2 : ℝ) ^ (120 : ℤ) : ℝ) : EReal) := by
  simp [Ideal.ofBits, Ideal.ieee, -EReal.coe_mul]
  try norm_num [-EReal.coe_mul]
theorem invMax_eq : invMax = ((9586981 * (2 : ℝ) ^ (-32 : ℤ) : ℝ) : EReal) := by
  simp [invMax, Ideal.ofBits, Ideal.ieee, -EReal.coe_mul]
  try norm_num [-EReal.coe_mul]

/-- In range, the magnitude times `c` is zero with the magnitude, or a real in the normal range. -/
theorem inRange_cases (a : EReal) (h : InRange a) :
    a = 0 ∨ a ≠ 0 ∧ ∃ r : ℝ, a * invMax = (r : EReal) ∧ (2 : ℝ) ^ (-126 : ℤ) ≤ r ∧ r < (2 : ℝ) ^ (126 : ℤ) := by
  rcases h with h | ⟨lo, hi⟩
  · left; rw [h, Ideal.ofBits_zero_f32]
  right
  rw [ofBits_tiny, invMax_eq] at lo
  rw [ofBits_max] at hi
  have hc : (0 : ℝ) < 9586981 * (2 : ℝ) ^ (-32 : ℤ) := by positivity
  induction a with
  | bot =>
    rw [EReal.bot_mul_coe_of_pos hc] at lo
    exact absurd lo (not_le.mpr (EReal.bot_lt_coe _))
  | top => exact absurd hi (not_le.mpr (EReal.coe_lt_top _))
  | coe a =>
    rw [← EReal.coe_mul, EReal.coe_le_coe_iff] at lo
    rw [EReal.coe_le_coe_iff] at hi
    refine ⟨?_, a * (9586981 * (2 : ℝ) ^ (-32 : ℤ)), by rw [invMax_eq, ← EReal.coe_mul], lo, ?_⟩
    · intro h0
      have h0 : a = 0 := by exact_mod_cast h0
      rw [h0, zero_mul] at lo
      exact absurd lo (not_le.mpr (by positivity))
    · calc a * (9586981 * (2 : ℝ) ^ (-32 : ℤ)) ≤ 255 * (2 : ℝ) ^ (120 : ℤ) * (9586981 * (2 : ℝ) ^ (-32 : ℤ)) := by gcongr
        _ < (2 : ℝ) ^ (126 : ℤ) := by norm_num

/-- The two exponents name one power of two, and one reciprocal. -/
theorem scale_eq (a : EReal) (h : InRange a) :
    wordPow (expWord (a * invMax)) = Ideal.exp2 (logExp a)
    ∧ wordPow (IntOp.subi 0#32 (expWord (a * invMax))) = Ideal.exp2 (Ideal.ofBits .f32 0x00000000#32 - logExp a) := by
  have p0 : ∀ n : ℤ, Ideal.exp2 (((n : ℝ)) : EReal) = (((2 : ℝ) ^ n : ℝ) : EReal) := fun n => by
    show ((Real.rpow 2 (n : ℝ) : ℝ) : EReal) = _
    exact congrArg _ (Real.rpow_intCast 2 n)
  unfold logExp
  rw [Ideal.ofBits_zero_f32]
  rcases inRange_cases a h with h0 | ⟨h0, r, hr, lo, hi⟩
  · have p1 := p0 0
    rw [Int.cast_zero, EReal.coe_zero, zpow_zero, EReal.coe_one] at p1
    rw [h0, zero_mul, if_pos rfl, sub_zero, p1]
    exact scale_zero
  · have pos : 0 < r := lt_of_lt_of_le (by positivity) lo
    rw [if_neg h0, hr, (scale_real r lo hi).1, (scale_real r lo hi).2, ofBits_two, ofBits_one]
    have l1 : Ideal.log (r : EReal) = ((Real.log r : ℝ) : EReal) := if_neg (not_le.mpr pos)
    have l2 : Ideal.log ((2 : ℝ) : EReal) = ((Real.log 2 : ℝ) : EReal) := if_neg (by norm_num)
    rw [l1, l2, Ideal.div_coe (Real.log_pos (by norm_num)).ne', ← EReal.coe_mul]
    rw [show Ideal.liftRound Int.floor ((Real.log r * (1 / Real.log 2) : ℝ) : EReal) = ((binLog r : ℝ) : EReal) from rfl]
    rw [← EReal.coe_add, show (binLog r : ℝ) + 1 = ((binLog r + 1 : ℤ) : ℝ) from by push_cast; ring]
    rw [zero_sub, ← EReal.coe_neg, ← Int.cast_neg, p0, p0]
    exact ⟨rfl, rfl⟩

end Cert.Quantiser

end
-- ==== Proof.Precondition.lean ====
module

public import proofs.«01_k».proof.Pre_rows_in_range
public import proofs.«01_k».proof.Proof.Quantiser
public import proofs.«01_k».proof.Proof.Gen.ReferenceIdeal.Launch
public import Idealize.ShloMosaic.Lib.Pipeline.ValueKit

@[expose] public section

set_option maxRecDepth 16384

noncomputable section

/-! # The precondition, read at a row -/

namespace Cert.Precondition

open Idealize.ShloMosaic Cert.Quantiser

theorem facts : Cert.Pre_rows_in_range.Facts where
  shapeCasts_S32x1x4096_S32x4096 := Cert.ReferenceIdeal.Gen.facts.shapeCasts_S32x1x4096_S32x4096
  bitsLt_bf16_f32 := Cert.ReferenceIdeal.Gen.facts.bitsLt_bf16_f32
  reducesTo_S32x4096_S32_d1 := Cert.ReferenceIdeal.Gen.facts.reducesTo_S32x4096_S32_d1
  h_S_ := Cert.ReferenceIdeal.Gen.facts.h_S_
  bcast_S32_S32x1_0 := Cert.ReferenceIdeal.Gen.facts.bcast_S32_S32x1_0
  bcast_S_S32x1 := Cert.ReferenceIdeal.Gen.facts.bcast_S_S32x1

/-- One word for "zero, or at least so much and at most so much" is set exactly when that holds. -/
theorem of_word {p q r : Prop} [Decidable p] [Decidable q] [Decidable r]
    (h : IntOp.ori (BitVec.ofBool (decide p)) (IntOp.andi (BitVec.ofBool (decide q)) (BitVec.ofBool (decide r))) = 1#1) : p ∨ q ∧ r := by
  by_cases hp : p
  · exact .inl hp
  · by_cases hq : q
    · by_cases hr : r
      · exact .inr ⟨hq, hr⟩
      · exfalso; revert h; simp only [hp, hq, hr, decide_true, decide_false]; decide
    · by_cases hr : r <;> (exfalso; revert h; simp only [hp, hq, hr, decide_true, decide_false]; decide)

/-- Every row's largest magnitude is in range. -/
theorem inRange [Cert.Pre_rows_in_range.Facts] (x : FVec Ideal Cert.Pre_rows_in_range.S32x1x4096 .bf16) (a1 : FVec Ideal Cert.Pre_rows_in_range.S4096x14336 .fp8e4m3)
    (a2 a3 : FVec Ideal Cert.Pre_rows_in_range.S14336 .f32) (a4 : IVec Cert.Pre_rows_in_range.S14336x2048 8) (a5 : FVec Ideal Cert.Pre_rows_in_range.S4096 .f32)
    (h : Cert.Pre_rows_in_range.fn (F := Ideal) x a1 a2 a3 a4 a5 = fun _ => 1#1) (r : Fin 32) :
    InRange (rowMag fun k => x (ix3 r 0 k)) := by
  have h' := congrFun h (ix2 r 0)
  unfold Cert.Pre_rows_in_range.fn at h'
  pointwise at h'
  rcases of_word h' with h0 | h1
  · left
    refine Eq.trans h0 ?_
    simp [Ideal.ofBits, Ideal.ieee]
  · exact .inr h1

end Cert.Precondition

end
-- ==== Proof.Values.lean ====
module

public import proofs.«01_k».proof.Proof.Quantiser

@[expose] public section

noncomputable section

/-! # What the layer computes, element by element

The four results as functions of the arguments and of two functions of a row's largest magnitude: its scale `s` and the
reciprocal of that scale, `inv`. Both programs are shown to compute these, each with its own `s` and `inv`. -/

namespace Cert.Values

open Idealize.ShloMosaic Cert.Quantiser

/-- The signed value of a byte's low four bits, as a word. -/
def lowNibble (w : BitVec 8) : BitVec 32 := IntOp.shrsi .vector (IntOp.shli .vector (BitVec.setWidth 32 w) 28#32) 28#32

/-- The signed value of a byte's high four bits, as a word. -/
def highNibble (w : BitVec 8) : BitVec 32 := IntOp.shrsi .vector (IntOp.shli .vector (BitVec.setWidth 32 w) 24#32) 28#32

/-- A word's signed value. -/
def intVal (w : BitVec 32) : EReal := ((w.toInt : ℝ) : EReal)

/-- The weight of hidden unit `j` and output column `n`: packed column `n / 2` holds two, the even column's in the low bits. -/
def weight (w : Fin 14336 → Fin 2048 → BitVec 8) (j : Fin 14336) (n : Fin 4096) : BitVec 32 :=
  if n.val % 2 = 0 then lowNibble (w j ⟨n.val / 2, by omega⟩) else highNibble (w j ⟨n.val / 2, by omega⟩)

/-- The code of element `k` of row `r`. -/
def code (inv : EReal → EReal) (x : Fin 32 → Fin 4096 → EReal) (r : Fin 32) (k : Fin 4096) : EReal :=
  clip (x r k * inv (rowMag (x r)))

/-- Hidden unit `j` of row `r`. -/
def hidden (s inv : EReal → EReal) (x : Fin 32 → Fin 4096 → EReal) (wu : Fin 4096 → Fin 14336 → EReal) (su b : Fin 14336 → EReal)
    (r : Fin 32) (j : Fin 14336) : EReal :=
  max ((∑ k, code inv x r k * wu k j) * s (rowMag (x r)) * su j + b j) (Ideal.ofBits .f32 0x00000000#32)

/-- Output column `n` of row `r`. -/
def output (s inv : EReal → EReal) (x : Fin 32 → Fin 4096 → EReal) (wu : Fin 4096 → Fin 14336 → EReal) (su b : Fin 14336 → EReal)
    (w : Fin 14336 → Fin 2048 → BitVec 8) (sd : Fin 4096 → EReal) (r : Fin 32) (n : Fin 4096) : EReal :=
  (∑ j, hidden s inv x wu su b r j * intVal (weight w j n)) * sd n

/-! ## Two scale functions that agree on the rows' magnitudes give the same results -/

section
variable {s s' inv inv' : EReal → EReal} {x : Fin 32 → Fin 4096 → EReal}

theorem code_congr (hi : ∀ r, inv (rowMag (x r)) = inv' (rowMag (x r))) (r : Fin 32) (k : Fin 4096) : code inv x r k = code inv' x r k := by
  unfold code
  rw [hi r]

theorem hidden_congr (hs : ∀ r, s (rowMag (x r)) = s' (rowMag (x r))) (hi : ∀ r, inv (rowMag (x r)) = inv' (rowMag (x r)))
    (wu : Fin 4096 → Fin 14336 → EReal) (su b : Fin 14336 → EReal) (r : Fin 32) (j : Fin 14336) :
    hidden s inv x wu su b r j = hidden s' inv' x wu su b r j := by
  unfold hidden
  simp only [hs r, code_congr hi]

theorem output_congr (hs : ∀ r, s (rowMag (x r)) = s' (rowMag (x r))) (hi : ∀ r, inv (rowMag (x r)) = inv' (rowMag (x r)))
    (wu : Fin 4096 → Fin 14336 → EReal) (su b : Fin 14336 → EReal) (w : Fin 14336 → Fin 2048 → BitVec 8) (sd : Fin 4096 → EReal)
    (r : Fin 32) (n : Fin 4096) : output s inv x wu su b w sd r n = output s' inv' x wu su b w sd r n := by
  unfold output
  simp only [hidden_congr hs hi]

end

end Cert.Values

end
-- ==== Proof.KernelIdeal.Arguments.lean ====
module

public import proofs.«01_k».proof.Proof.KernelIdeal.Frame
public import proofs.«01_k».proof.Proof.Values
public import Idealize.ShloMosaic.Lib.Pipeline.ValueKit
public import Idealize.ShloMosaic.Lib.StableHlo.ReadAt

@[expose] public section

set_option maxRecDepth 16384

noncomputable section

/-! # The arguments as the kernel's blocks hold them -/

namespace Cert.KernelIdeal.Body

open Idealize.ShloMosaic Idealize.ShloMosaic.TcCoe
open Cert.KernelIdeal Cert.KernelIdeal.Gen

variable (m : (ℓ : Loc nD τ sig) → Buf (Elt Ideal) ℓ)

/-! ## The arguments, by coordinates -/

/-- The activations. -/
def argX (c : Dev nD) (r : Fin 32) (k : Fin 4096) : EReal := m ((c : Thread nD τ).loc main_arg0) (ix3 r 0 k)
/-- The up-projection's codes. -/
def argWu (c : Dev nD) (k : Fin 4096) (j : Fin 14336) : EReal := m ((c : Thread nD τ).loc main_arg1) (ix2 k j)
/-- The up-projection's scales. -/
def argSu (c : Dev nD) (j : Fin 14336) : EReal := m ((c : Thread nD τ).loc main_arg2) (ix1 j)
/-- The bias. -/
def argB (c : Dev nD) (j : Fin 14336) : EReal := m ((c : Thread nD τ).loc main_arg3) (ix1 j)
/-- The packed down-projection. -/
def argW (c : Dev nD) (j : Fin 14336) (p : Fin 2048) : BitVec 8 := m ((c : Thread nD τ).loc main_arg4) (ix2 j p)
/-- The down-projection's scales. -/
def argSd (c : Dev nD) (n : Fin 4096) : EReal := m ((c : Thread nD τ).loc main_arg5) (ix1 n)

theorem V_0 (c : Dev nD) (r : Fin 32) (k : Fin 4096) : V m c main_v0 (ix2 r k) = argX m c r k := by
  unfold V
  after_reads_at
  try rfl

theorem V_1 (c : Dev nD) (j : Fin 14336) : V m c main_v1 (ix2 0 j) = argSu m c j := by
  unfold V
  after_reads_at
  try rfl

theorem V_2 (c : Dev nD) (j : Fin 14336) : V m c main_v2 (ix2 0 j) = argB m c j := by
  unfold V
  after_reads_at
  try rfl

theorem V_3 (c : Dev nD) (n : Fin 4096) : V m c main_v3 (ix2 0 n) = argSd m c n := by
  unfold V
  after_reads_at
  try rfl

/-! ## The blocks -/

theorem idx : ∀ t : Fin cfg0.N, win0_0.index t = ![0, 0] ∧ win0_1.index t = ![0, t.val] ∧ win0_2.index t = ![0, 0] ∧ win0_3.index t = ![0, 0]
    ∧ win0_4.index t = ![t.val, 0] ∧ win0_5.index t = ![0, 0] ∧ win0_7.index t = ![0, t.val] ∧ k0_off1 (grid0.coords t) = ![0, 512 * t.val] :=
  (by decide +kernel : ∀ t : Fin grid0.N, _)

/-- There are 28 steps. -/
theorem step_lt (t : Fin cfg0.N) : t.val < 28 := lt_of_lt_of_eq t.isLt (show cfg0.N = 28 from N_0)

/-- Hidden unit `k` of step `t`'s block. -/
def unit (t : Fin cfg0.N) (k : Fin 512) : Fin 14336 := ⟨t.val * 512 + k.val, by have := step_lt t; omega⟩

theorem blk_x (c : Dev nD) (t : Fin cfg0.N) (r : Fin 32) (k : Fin 4096) : iblk m c 0 t (ix2 r k) = argX m c r k := by
  rw [← V_0]
  blk_ext [iblk, idx t]

theorem blk_wu (c : Dev nD) (t : Fin cfg0.N) (k : Fin 4096) (j : Fin 512) : iblk m c 1 t (ix2 k j) = argWu m c k (unit t j) := by
  unfold argWu unit
  rw [← V_main_arg1 m c]
  blk_ext [iblk, idx t]

theorem blk_w (c : Dev nD) (t : Fin cfg0.N) (j : Fin 512) (p : Fin 2048) : iblk m c 4 t (ix2 j p) = argW m c (unit t j) p := by
  unfold argW unit
  rw [← V_main_arg4 m c]
  blk_ext [iblk, idx t]

theorem blk_sd (c : Dev nD) (t : Fin cfg0.N) (n : Fin 4096) : iblk m c 5 t (ix2 0 n) = argSd m c n := by
  rw [← V_3]
  blk_ext [iblk, idx t]

theorem blk_su (c : Dev nD) (t : Fin cfg0.N) (j : Fin 14336) : iblk m c 2 t (ix2 0 j) = argSu m c j := by
  rw [← V_1]
  blk_ext [iblk, idx t]

theorem blk_b (c : Dev nD) (t : Fin cfg0.N) (j : Fin 14336) : iblk m c 3 t (ix2 0 j) = argB m c j := by
  rw [← V_2]
  blk_ext [iblk, idx t]

/-- Step `t`'s lanes of a row over the hidden axis. -/
theorem laneBlock_apply (t : Fin cfg0.N) (x : Vec Ideal S1x14336 .f32) (j : Fin 512) :
    laneBlock (grid0.coords t) x (ix2 0 j) = x (ix2 0 (unit t j)) := by
  unfold laneBlock unit
  refine congrArg x (funext fun a => Fin.ext ?_)
  have h := (idx t).2.2.2.2.2.2.2
  match a with
  | ⟨0, _⟩ => show k0_off1 (grid0.coords t) 0 + 1 * 0 = 0; rw [h]; rfl
  | ⟨1, _⟩ => show k0_off1 (grid0.coords t) 1 + 1 * j.val = t.val * 512 + j.val; rw [h]; show 512 * t.val + 1 * j.val = _; omega

theorem scaleCol_apply (xs : Vec Ideal S32x128 .f32) (r : Fin 32) : scaleCol xs (ix2 r 0) = xs (ix2 r 0) := by
  unfold scaleCol
  refine congrArg xs (funext fun a => Fin.ext ?_)
  match a with
  | ⟨0, _⟩ => show 0 + 1 * r.val = r.val; omega
  | ⟨1, _⟩ => rfl

end Cert.KernelIdeal.Body

end
-- ==== Proof.KernelIdeal.Payloads.lean ====
module

public import proofs.«01_k».proof.Proof.KernelIdeal.Blocks
public import proofs.«01_k».proof.Proof.Values
public import Idealize.ShloMosaic.Lib.Pipeline.ValueKit

@[expose] public section

set_option maxRecDepth 16384

noncomputable section

namespace Cert.KernelIdeal.Body

open Idealize.ShloMosaic
open Cert.KernelIdeal.Gen Cert.Quantiser Cert.Values

/-! # The kernel's vector code at an index -/

theorem pay4_apply (x : Vec Ideal S32x4096 .bf16) (r : Fin 32) (k : Fin 4096) : k0_pay4 x (ix2 r k) = x (ix2 r k) := by
  unfold k0_pay4
  pointwise

/-- The exponent word of a row. -/
theorem pay5_apply (x : Vec Ideal S32x4096 .bf16) (r : Fin 32) (z : Fin 1) :
    k0_pay5 (F := Ideal) x (ix2 r z) = expWord (rowMag (fun k => x (ix2 r k)) * invMax) := by
  unfold k0_pay5
  pointwise
  simp only [pay4_apply]
  rfl

/-- The codes. -/
theorem codesOf_apply (x : Vec Ideal S32x4096 .bf16) (r : Fin 32) (k : Fin 4096) :
    codesOf (F := Ideal) x (ix2 r k)
      = clip (x (ix2 r k) * wordPow (IntOp.subi 0#32 (expWord (rowMag (fun k => x (ix2 r k)) * invMax)))) := by
  unfold codesOf k0_pay6
  pointwise
  simp only [pay4_apply, pay5_apply]
  rfl

/-- The scales. -/
theorem scalesOf_apply (x : Vec Ideal S32x4096 .bf16) (r : Fin 32) (l : Fin 128) :
    scalesOf (F := Ideal) x (ix2 r l) = wordPow (expWord (rowMag (fun k => x (ix2 r k)) * invMax)) := by
  unfold scalesOf k0_pay160
  pointwise
  simp only [pay5_apply]
  rfl

/-- A block of `h`. -/
theorem pay163_apply (xc : Vec Ideal S32x4096 .fp8e4m3) (w : Vec Ideal S4096x512 .fp8e4m3) (s : Vec Ideal S32x1 .f32) (su b : Vec Ideal S1x512 .f32)
    (r : Fin 32) (j : Fin 512) :
    k0_pay163 (F := Ideal) xc w s su b (ix2 r j)
      = max ((∑ k, xc (ix2 r k) * w (ix2 k j)) * s (ix2 r 0) * su (ix2 0 j) + b (ix2 0 j)) (Ideal.ofBits .f32 0x00000000#32) := by
  unfold k0_pay163
  pointwise

/-- A step of the even-column accumulator. -/
theorem evenStep_apply (h : Vec Ideal S32x512 .bf16) (w : Vec Ideal S512x2048 .i8) (a : Vec Ideal S32x2048 .f32) (r : Fin 32) (j : Fin 2048) :
    evenStep (F := Ideal) h w a (ix2 r j) = a (ix2 r j) + ∑ k, h (ix2 r k) * intVal (lowNibble (w (ix2 k j))) := by
  unfold evenStep k0_pay1 k0_pay165 k0_pay164
  pointwise
  rfl

/-- A step of the odd-column accumulator. -/
theorem oddStep_apply (h : Vec Ideal S32x512 .bf16) (w : Vec Ideal S512x2048 .i8) (a : Vec Ideal S32x2048 .f32) (r : Fin 32) (j : Fin 2048) :
    oddStep (F := Ideal) h w a (ix2 r j) = a (ix2 r j) + ∑ k, h (ix2 r k) * intVal (highNibble (w (ix2 k j))) := by
  unfold oddStep k0_pay2 k0_pay166 k0_pay164
  pointwise
  rfl

/-- The accumulators start at zero. -/
theorem pay161_apply (r : Fin 32) (j : Fin 2048) : k0_pay161 (F := Ideal) (ix2 r j) = 0 := by
  unfold k0_pay161
  pointwise

theorem pay162_apply (r : Fin 32) (j : Fin 2048) : k0_pay162 (F := Ideal) (ix2 r j) = 0 := by
  unfold k0_pay162
  pointwise

end Cert.KernelIdeal.Body

end
-- ==== Proof.KernelIdeal.Output.lean ====
module

public import proofs.«01_k».proof.Proof.KernelIdeal.Payloads

@[expose] public section

set_option maxRecDepth 16384

noncomputable section

namespace Cert.KernelIdeal.Body

open Idealize.ShloMosaic
open Cert.KernelIdeal.Gen

/-! # The last step's output at an index: even and odd columns interleaved -/

/-! ## One tile -/

theorem sourceLane_zero (r : Fin 32) (l : Fin 128) : sourceLane 0#32 (ix2 r l) = BitVec.ofNat 32 (l.val / 2) := by
  unfold sourceLane lanes
  pointwise
  revert l
  decide +kernel

theorem sourceLane_half (r : Fin 32) (l : Fin 128) : sourceLane 64#32 (ix2 r l) = BitVec.ofNat 32 (l.val / 2 + 64) := by
  unfold sourceLane lanes
  pointwise
  revert l
  decide +kernel

theorem evenLane_apply (r : Fin 32) (l : Fin 128) : evenLane (ix2 r l) = if l.val % 2 = 0 then 1#1 else 0#1 := by
  unfold evenLane lanes
  pointwise
  revert l
  decide +kernel

/-- A lane number in range is the lane read. -/
theorem lane_word : ∀ q : Fin 128,
    (Scalar.select (IntOp.cmpi .slt (BitVec.ofNat 32 q.val) 0#32) (IntOp.addi (BitVec.ofNat 32 q.val) 128#32) (BitVec.ofNat 32 q.val)).toNat % 128 = q.val := by
  decide +kernel

theorem takeLanes_apply (x : Vec Ideal S32x128 .f32) (n : IVec S32x128 32) (r : Fin 32) (l q : Fin 128)
    (h : n (ix2 r l) = BitVec.ofNat 32 q.val) : takeLanes x n (ix2 r l) = x (ix2 r q) := by
  unfold takeLanes
  pointwise
  refine congrArg (fun z => x (ix2 r z)) (Fin.ext ?_)
  simp only [h]
  exact lane_word q

theorem yTile_apply (off : BitVec 32) (ev od : Vec Ideal S32x128 .f32) (sd : Vec Ideal S1x128 .f32) (r : Fin 32) (l q : Fin 128)
    (h : sourceLane off (ix2 r l) = BitVec.ofNat 32 q.val) :
    yTile off ev od sd (ix2 r l) = (if l.val % 2 = 0 then ev (ix2 r q) else od (ix2 r q)) * sd (ix2 0 l) := by
  unfold yTile
  pointwise
  rw [evenLane_apply, takeLanes_apply ev _ r l q h, takeLanes_apply od _ r l q h]
  by_cases hl : l.val % 2 = 0
  · rw [if_pos hl, if_pos hl]; rfl
  · rw [if_neg hl, if_neg hl]; rfl

/-! ## The whole array -/

/-- Column `n` of `y`: the even or the odd accumulator at column `n / 2`, scaled. -/
def yFun (ae ao : Vec Ideal S32x2048 .f32) (sd : Vec Ideal S1x4096 .f32) : Vec Ideal S32x4096 .bf16 := fun i =>
  (if (i 1).val % 2 = 0 then ae (ix2 (i 0) ⟨(i 1).val / 2, by have h : (i 1).val < 4096 := (i 1).isLt; omega⟩)
    else ao (ix2 (i 0) ⟨(i 1).val / 2, by have h : (i 1).val < 4096 := (i 1).isLt; omega⟩)) * sd (ix2 0 (i 1))

/-- A tile at a lane that takes lane `q` is `yFun` there. -/
theorem tile_at (off : BitVec 32) (o : ℕ) (hs : ∀ (r : Fin 32) (l : Fin 128), sourceLane off (ix2 r l) = BitVec.ofNat 32 (l.val / 2 + o)) (ho : o ≤ 64)
    (ae ao : Vec Ideal S32x2048 .f32) (sd : Vec Ideal S1x4096 .f32) (A C : ℕ) (hC : C = 2 * A + 2 * o)
    (inbA : ∀ a, (![0, A] : Fin 2 → ℕ) a + S32x128.size a ≤ S32x2048.size a) (inbS : ∀ a, (![0, C] : Fin 2 → ℕ) a + S1x128.size a ≤ S1x4096.size a)
    (inbC : ∀ a, (![0, C] : Fin 2 → ℕ) a + S32x128.size a ≤ S32x4096.size a) (x : S32x128.Idx) :
    yTile off (View.ld ae (Rect.unit (s := S32x2048) ![0, A] S32x128.size inbA)) (View.ld ao (Rect.unit (s := S32x2048) ![0, A] S32x128.size inbA))
        (View.ld sd (Rect.unit (s := S1x4096) ![0, C] S1x128.size inbS)) x
      = yFun ae ao sd ((Rect.unit (s := S32x4096) ![0, C] S32x128.size inbC).emb x) := by
  obtain ⟨r, l, rfl⟩ : ∃ (r : Fin 32) (l : Fin 128), x = ix2 r l := ⟨x 0, x 1, by funext a; match a with | ⟨0, _⟩ => rfl | ⟨1, _⟩ => rfl⟩
  have hA : A + 128 ≤ 2048 := inbA 1
  rw [yTile_apply off _ _ _ r l ⟨l.val / 2 + o, by omega⟩ (hs r l)]
  have e1 : (((Rect.unit (s := S32x4096) ![0, C] S32x128.size inbC).emb (ix2 r l)) 1 : Fin 4096).val = C + 1 * l.val := rfl
  have e0 : (((Rect.unit (s := S32x4096) ![0, C] S32x128.size inbC).emb (ix2 r l)) 0 : Fin 32).val = 0 + 1 * r.val := rfl
  unfold yFun
  have hpar : (((Rect.unit (s := S32x4096) ![0, C] S32x128.size inbC).emb (ix2 r l)) 1 : Fin 4096).val % 2 = l.val % 2 := by rw [e1]; omega
  rw [hpar]
  congr 1
  · congr 1
    · refine congrArg ae (funext fun a => Fin.ext ?_)
      match a with
      | ⟨0, _⟩ => show 0 + 1 * r.val = 0 + 1 * r.val; rfl
      | ⟨1, _⟩ => show A + 1 * (l.val / 2 + o) = (C + 1 * l.val) / 2; omega
    · refine congrArg ao (funext fun a => Fin.ext ?_)
      match a with
      | ⟨0, _⟩ => show 0 + 1 * r.val = 0 + 1 * r.val; rfl
      | ⟨1, _⟩ => show A + 1 * (l.val / 2 + o) = (C + 1 * l.val) / 2; omega
  · refine congrArg sd (funext fun a => Fin.ext ?_)
    match a with
    | ⟨0, _⟩ => rfl
    | ⟨1, _⟩ => rfl

theorem tile_zero (ae ao : Vec Ideal S32x2048 .f32) (sd : Vec Ideal S1x4096 .f32) (A C : ℕ) (hC : C = 2 * A)
    (inbA : ∀ a, (![0, A] : Fin 2 → ℕ) a + S32x128.size a ≤ S32x2048.size a) (inbS : ∀ a, (![0, C] : Fin 2 → ℕ) a + S1x128.size a ≤ S1x4096.size a)
    (inbC : ∀ a, (![0, C] : Fin 2 → ℕ) a + S32x128.size a ≤ S32x4096.size a) (x : S32x128.Idx) :
    yTile 0#32 (View.ld ae (Rect.unit (s := S32x2048) ![0, A] S32x128.size inbA)) (View.ld ao (Rect.unit (s := S32x2048) ![0, A] S32x128.size inbA))
        (View.ld sd (Rect.unit (s := S1x4096) ![0, C] S1x128.size inbS)) x
      = yFun ae ao sd ((Rect.unit (s := S32x4096) ![0, C] S32x128.size inbC).emb x) :=
  tile_at 0#32 0 sourceLane_zero (by omega) ae ao sd A C (by omega) inbA inbS inbC x

theorem tile_half (ae ao : Vec Ideal S32x2048 .f32) (sd : Vec Ideal S1x4096 .f32) (A C : ℕ) (hC : C = 2 * A + 128)
    (inbA : ∀ a, (![0, A] : Fin 2 → ℕ) a + S32x128.size a ≤ S32x2048.size a) (inbS : ∀ a, (![0, C] : Fin 2 → ℕ) a + S1x128.size a ≤ S1x4096.size a)
    (inbC : ∀ a, (![0, C] : Fin 2 → ℕ) a + S32x128.size a ≤ S32x4096.size a) (x : S32x128.Idx) :
    yTile 64#32 (View.ld ae (Rect.unit (s := S32x2048) ![0, A] S32x128.size inbA)) (View.ld ao (Rect.unit (s := S32x2048) ![0, A] S32x128.size inbA))
        (View.ld sd (Rect.unit (s := S1x4096) ![0, C] S1x128.size inbS)) x
      = yFun ae ao sd ((Rect.unit (s := S32x4096) ![0, C] S32x128.size inbC).emb x) :=
  tile_at 64#32 64 sourceLane_half (by omega) ae ao sd A C (by omega) inbA inbS inbC x

/-- The array the 32 stores leave. -/
theorem yOut_eq (ae ao : Vec Ideal S32x2048 .f32) (sd : Vec Ideal S1x4096 .f32) : yOut ae ao sd = yFun ae ao sd := by
  funext y
  refine View.canon_apply_of_pieces (yFun ae ao sd) _ ?_ y (yPieces_cover ae ao sd y)
  intro p hp
  simp only [yPieces, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact tile_half ae ao sd 1920 3968 rfl inb_S32x2048_S32x128_0_1920 inb_S1x4096_S1x128_0_3968 inb_S32x4096_S32x128_0_3968
  · exact tile_zero ae ao sd 1920 3840 rfl inb_S32x2048_S32x128_0_1920 inb_S1x4096_S1x128_0_3840 inb_S32x4096_S32x128_0_3840
  · exact tile_half ae ao sd 1792 3712 rfl inb_S32x2048_S32x128_0_1792 inb_S1x4096_S1x128_0_3712 inb_S32x4096_S32x128_0_3712
  · exact tile_zero ae ao sd 1792 3584 rfl inb_S32x2048_S32x128_0_1792 inb_S1x4096_S1x128_0_3584 inb_S32x4096_S32x128_0_3584
  · exact tile_half ae ao sd 1664 3456 rfl inb_S32x2048_S32x128_0_1664 inb_S1x4096_S1x128_0_3456 inb_S32x4096_S32x128_0_3456
  · exact tile_zero ae ao sd 1664 3328 rfl inb_S32x2048_S32x128_0_1664 inb_S1x4096_S1x128_0_3328 inb_S32x4096_S32x128_0_3328
  · exact tile_half ae ao sd 1536 3200 rfl inb_S32x2048_S32x128_0_1536 inb_S1x4096_S1x128_0_3200 inb_S32x4096_S32x128_0_3200
  · exact tile_zero ae ao sd 1536 3072 rfl inb_S32x2048_S32x128_0_1536 inb_S1x4096_S1x128_0_3072 inb_S32x4096_S32x128_0_3072
  · exact tile_half ae ao sd 1408 2944 rfl inb_S32x2048_S32x128_0_1408 inb_S1x4096_S1x128_0_2944 inb_S32x4096_S32x128_0_2944
  · exact tile_zero ae ao sd 1408 2816 rfl inb_S32x2048_S32x128_0_1408 inb_S1x4096_S1x128_0_2816 inb_S32x4096_S32x128_0_2816
  · exact tile_half ae ao sd 1280 2688 rfl inb_S32x2048_S32x128_0_1280 inb_S1x4096_S1x128_0_2688 inb_S32x4096_S32x128_0_2688
  · exact tile_zero ae ao sd 1280 2560 rfl inb_S32x2048_S32x128_0_1280 inb_S1x4096_S1x128_0_2560 inb_S32x4096_S32x128_0_2560
  · exact tile_half ae ao sd 1152 2432 rfl inb_S32x2048_S32x128_0_1152 inb_S1x4096_S1x128_0_2432 inb_S32x4096_S32x128_0_2432
  · exact tile_zero ae ao sd 1152 2304 rfl inb_S32x2048_S32x128_0_1152 inb_S1x4096_S1x128_0_2304 inb_S32x4096_S32x128_0_2304
  · exact tile_half ae ao sd 1024 2176 rfl inb_S32x2048_S32x128_0_1024 inb_S1x4096_S1x128_0_2176 inb_S32x4096_S32x128_0_2176
  · exact tile_zero ae ao sd 1024 2048 rfl inb_S32x2048_S32x128_0_1024 inb_S1x4096_S1x128_0_2048 inb_S32x4096_S32x128_0_2048
  · exact tile_half ae ao sd 896 1920 rfl inb_S32x2048_S32x128_0_896 inb_S1x4096_S1x128_0_1920 inb_S32x4096_S32x128_0_1920
  · exact tile_zero ae ao sd 896 1792 rfl inb_S32x2048_S32x128_0_896 inb_S1x4096_S1x128_0_1792 inb_S32x4096_S32x128_0_1792
  · exact tile_half ae ao sd 768 1664 rfl inb_S32x2048_S32x128_0_768 inb_S1x4096_S1x128_0_1664 inb_S32x4096_S32x128_0_1664
  · exact tile_zero ae ao sd 768 1536 rfl inb_S32x2048_S32x128_0_768 inb_S1x4096_S1x128_0_1536 inb_S32x4096_S32x128_0_1536
  · exact tile_half ae ao sd 640 1408 rfl inb_S32x2048_S32x128_0_640 inb_S1x4096_S1x128_0_1408 inb_S32x4096_S32x128_0_1408
  · exact tile_zero ae ao sd 640 1280 rfl inb_S32x2048_S32x128_0_640 inb_S1x4096_S1x128_0_1280 inb_S32x4096_S32x128_0_1280
  · exact tile_half ae ao sd 512 1152 rfl inb_S32x2048_S32x128_0_512 inb_S1x4096_S1x128_0_1152 inb_S32x4096_S32x128_0_1152
  · exact tile_zero ae ao sd 512 1024 rfl inb_S32x2048_S32x128_0_512 inb_S1x4096_S1x128_0_1024 inb_S32x4096_S32x128_0_1024
  · exact tile_half ae ao sd 384 896 rfl inb_S32x2048_S32x128_0_384 inb_S1x4096_S1x128_0_896 inb_S32x4096_S32x128_0_896
  · exact tile_zero ae ao sd 384 768 rfl inb_S32x2048_S32x128_0_384 inb_S1x4096_S1x128_0_768 inb_S32x4096_S32x128_0_768
  · exact tile_half ae ao sd 256 640 rfl inb_S32x2048_S32x128_0_256 inb_S1x4096_S1x128_0_640 inb_S32x4096_S32x128_0_640
  · exact tile_zero ae ao sd 256 512 rfl inb_S32x2048_S32x128_0_256 inb_S1x4096_S1x128_0_512 inb_S32x4096_S32x128_0_512
  · exact tile_half ae ao sd 128 384 rfl inb_S32x2048_S32x128_0_128 inb_S1x4096_S1x128_0_384 inb_S32x4096_S32x128_0_384
  · exact tile_zero ae ao sd 128 256 rfl inb_S32x2048_S32x128_0_128 inb_S1x4096_S1x128_0_256 inb_S32x4096_S32x128_0_256
  · exact tile_half ae ao sd 0 128 rfl inb_S32x2048_S32x128_0_0 inb_S1x4096_S1x128_0_128 inb_S32x4096_S32x128_0_128
  · exact tile_zero ae ao sd 0 0 rfl inb_S32x2048_S32x128_0_0 inb_S1x4096_S1x128_0_0 inb_S32x4096_S32x128_0_0

end Cert.KernelIdeal.Body

end
-- ==== Proof.KernelIdeal.Arrays.lean ====
module

public import proofs.«01_k».proof.Proof.KernelIdeal.Arguments
public import proofs.«01_k».proof.Proof.KernelIdeal.Output

@[expose] public section

set_option maxRecDepth 16384

noncomputable section

/-! # What the kernel's arrays hold after its run -/

namespace Cert.KernelIdeal.Body

open Idealize.ShloMosaic Idealize.ShloMosaic.TcCoe
open Cert.KernelIdeal Cert.KernelIdeal.Gen Cert.Quantiser Cert.Values

variable (m : (ℓ : Loc nD τ sig) → Buf (Elt Ideal) ℓ)

/-- A row's scale, -/
def scale (a : EReal) : EReal := wordPow (expWord (a * invMax))
/-- and its reciprocal. -/
def invScale (a : EReal) : EReal := wordPow (IntOp.subi 0#32 (expWord (a * invMax)))

/-- The last step. -/
def tEnd : Fin cfg0.N := ⟨27, by rw [show cfg0.N = 28 from N_0]; omega⟩

theorem codes_apply (c : Dev nD) (r : Fin 32) (k : Fin 4096) : codes m c (ix2 r k) = code invScale (argX m c) r k := by
  unfold codes
  rw [codesOf_apply]
  simp only [blk_x]
  rfl

theorem scales_apply (c : Dev nD) (r : Fin 32) (l : Fin 128) : scales m c (ix2 r l) = scale (rowMag (argX m c r)) := by
  unfold scales
  rw [scalesOf_apply]
  simp only [blk_x]
  rfl

/-- Step `t`'s block of hidden units. -/
theorem hAt_apply (c : Dev nD) (t : Fin cfg0.N) (r : Fin 32) (j : Fin 512) :
    hAt m c t (ix2 r j) = hidden scale invScale (argX m c) (argWu m c) (argSu m c) (argB m c) r (unit t j) := by
  unfold hAt hBlock
  rw [pay163_apply, scaleCol_apply, laneBlock_apply, laneBlock_apply, scales_apply, blk_su, blk_b]
  simp only [codes_apply, blk_wu]
  rfl

/-! ## The accumulators -/

/-- What step `t` adds to the even accumulator. -/
def evenTerm (c : Dev nD) (t : Fin cfg0.N) (r : Fin 32) (p : Fin 2048) : EReal :=
  ∑ k : Fin 512, hidden scale invScale (argX m c) (argWu m c) (argSu m c) (argB m c) r (unit t k) * intVal (lowNibble (argW m c (unit t k) p))

/-- What step `t` adds to the odd accumulator. -/
def oddTerm (c : Dev nD) (t : Fin cfg0.N) (r : Fin 32) (p : Fin 2048) : EReal :=
  ∑ k : Fin 512, hidden scale invScale (argX m c) (argWu m c) (argSu m c) (argB m c) r (unit t k) * intVal (highNibble (argW m c (unit t k) p))

theorem evenAt_step (c : Dev nD) (t : Fin cfg0.N) (r : Fin 32) (p : Fin 2048) :
    evenAt m c (t.val + 1) (ix2 r p) = evenAt m c t.val (ix2 r p) + evenTerm m c t r p := by
  rw [evenAt_succ, evenStep_apply]
  simp only [hAt_apply, blk_w]
  rfl

theorem oddAt_step (c : Dev nD) (t : Fin cfg0.N) (r : Fin 32) (p : Fin 2048) :
    oddAt m c (t.val + 1) (ix2 r p) = oddAt m c t.val (ix2 r p) + oddTerm m c t r p := by
  rw [oddAt_succ, oddStep_apply]
  simp only [hAt_apply, blk_w]
  rfl

/-- A sequence that starts at zero and grows by a term a step is the sum of the terms. -/
theorem sum_of_steps (f : ℕ → EReal) (g : Fin 28 → EReal) (h0 : f 0 = 0) (hs : ∀ t : Fin 28, f (t.val + 1) = f t.val + g t) : f 28 = ∑ t, g t := by
  have key : ∀ n (hn : n ≤ 28), f n = ∑ t : Fin n, g ⟨t.val, lt_of_lt_of_le t.isLt hn⟩ := by
    intro n
    induction n with
    | zero => intro _; rw [h0]; rfl
    | succ n ih => intro hn; rw [Fin.sum_univ_castSucc, hs ⟨n, by omega⟩, ih (by omega)]; rfl
  exact key 28 le_rfl

/-- The even accumulator after the last step: the whole contraction. -/
theorem evenAt_end (c : Dev nD) (r : Fin 32) (p : Fin 2048) :
    evenAt m c 28 (ix2 r p)
      = ∑ j, hidden scale invScale (argX m c) (argWu m c) (argSu m c) (argB m c) r j * intVal (lowNibble (argW m c j p)) := by
  rw [sum_of_steps (fun n => evenAt m c n (ix2 r p)) (fun t => evenTerm m c t r p) (pay161_apply r p) (fun t => evenAt_step m c t r p)]
  exact Fin.sum_mul_add_fin 28 512
    (fun j => hidden scale invScale (argX m c) (argWu m c) (argSu m c) (argB m c) r j * intVal (lowNibble (argW m c j p))) rfl

/-- The odd accumulator after the last step. -/
theorem oddAt_end (c : Dev nD) (r : Fin 32) (p : Fin 2048) :
    oddAt m c 28 (ix2 r p)
      = ∑ j, hidden scale invScale (argX m c) (argWu m c) (argSu m c) (argB m c) r j * intVal (highNibble (argW m c j p)) := by
  rw [sum_of_steps (fun n => oddAt m c n (ix2 r p)) (fun t => oddTerm m c t r p) (pay162_apply r p) (fun t => oddAt_step m c t r p)]
  exact Fin.sum_mul_add_fin 28 512
    (fun j => hidden scale invScale (argX m c) (argWu m c) (argSu m c) (argB m c) r j * intVal (highNibble (argW m c j p))) rfl

/-! ## The four arrays -/

theorem arr8 (c : Dev nD) : (dats m 0 c).arrAt 8 cfg0.N = codes m c := by
  refine (dats m 0 c).arrAt_eq_of_after_last 8 tEnd (by decide +kernel) _ fun j => ?_
  blk_simp
  rw [after_8]

theorem arr9 (c : Dev nD) : (dats m 0 c).arrAt 9 cfg0.N = scales m c := by
  refine (dats m 0 c).arrAt_eq_of_after_last 9 tEnd (by decide +kernel) _ fun j => ?_
  blk_simp
  rw [after_9]

theorem arr6 (c : Dev nD) : (dats m 0 c).arrAt 6 cfg0.N = yFun (evenAt m c 28) (oddAt m c 28) (iblk m c 5 tEnd) := by
  refine (dats m 0 c).arrAt_eq_of_after_last 6 tEnd (by decide +kernel) _ fun j => ?_
  blk_simp
  rw [after_6, ← yOut_eq]
  rfl

/-- The hidden units as one array. -/
def hFun (c : Dev nD) : Vec Ideal S32x14336 .bf16 := fun i =>
  hidden scale invScale (argX m c) (argWu m c) (argSu m c) (argB m c) (i 0) (i 1)

theorem arr7 (c : Dev nD) : (dats m 0 c).arrAt 7 cfg0.N = hFun m c := by
  refine (dats m 0 c).arrAt_eq_of_covers 7 _ (by decide +kernel) fun t hf y => ?_
  blk_simp
  rw [after_7]
  obtain ⟨r, l, rfl⟩ : ∃ (r : Fin 32) (l : Fin 512), y = ix2 r l := ⟨y 0, y 1, by funext a; match a with | ⟨0, _⟩ => rfl | ⟨1, _⟩ => rfl⟩
  rw [hAt_apply]
  show hFun m c (ix2 r (unit t l)) = hFun m c _
  generalize hFun m c = G
  unfold unit
  blk_ext [idx t]

theorem final6 (c : Dev nD) (r : Fin 32) (n : Fin 4096) :
    (dats m 0 c).arrAt 6 cfg0.N (ix2 r n)
      = output scale invScale (argX m c) (argWu m c) (argSu m c) (argB m c) (argW m c) (argSd m c) r n := by
  rw [arr6]
  show (if n.val % 2 = 0 then evenAt m c 28 (ix2 r ⟨n.val / 2, _⟩) else oddAt m c 28 (ix2 r ⟨n.val / 2, _⟩)) * iblk m c 5 tEnd (ix2 0 n) = _
  rw [blk_sd, evenAt_end, oddAt_end]
  unfold output weight
  by_cases h : n.val % 2 = 0
  · simp only [if_pos h]
  · simp only [if_neg h]

theorem final7 (c : Dev nD) (r : Fin 32) (j : Fin 14336) :
    (dats m 0 c).arrAt 7 cfg0.N (ix2 r j) = hidden scale invScale (argX m c) (argWu m c) (argSu m c) (argB m c) r j := by
  rw [arr7]
  rfl

theorem final8 (c : Dev nD) (r : Fin 32) (k : Fin 4096) :
    (dats m 0 c).arrAt 8 cfg0.N (ix2 r k) = code invScale (argX m c) r k := by
  rw [arr8, codes_apply]

theorem final9 (c : Dev nD) (r : Fin 32) (l : Fin 128) :
    (dats m 0 c).arrAt 9 cfg0.N (ix2 r l) = scale (rowMag (argX m c r)) := by
  rw [arr9, scales_apply]

end Cert.KernelIdeal.Body

end
-- ==== Proof.ReferenceIdeal.Host.lean ====
module

public import proofs.«01_k».proof.Proof.Gen.ReferenceIdeal.Value
public import proofs.«01_k».proof.Proof.Values
public import Idealize.ShloMosaic.Lib.Pipeline.ValueKit
public import Idealize.ShloMosaic.Lib.StableHlo.ReadAt

@[expose] public section

set_option maxRecDepth 16384

noncomputable section

/-! # What the reference's host operations leave, element by element -/

namespace Cert.ReferenceIdeal.Host

open Idealize.ShloMosaic Idealize.ShloMosaic.TcCoe
open Cert.ReferenceIdeal Cert.ReferenceIdeal.Gen Cert.Quantiser Cert.Values

variable (m : (ℓ : Loc nD τ sig) → Buf (Elt Ideal) ℓ)

/-! ## The arguments, by coordinates -/

/-- The activations. -/
def argX (c : Dev nD) (r : Fin 32) (k : Fin 4096) : EReal := m ((c : Thread nD τ).loc main_arg0) (ix3 r 0 k)
/-- The up-projection's codes. -/
def argWu (c : Dev nD) (k : Fin 4096) (j : Fin 14336) : EReal := m ((c : Thread nD τ).loc main_arg1) (ix2 k j)
/-- The up-projection's scales. -/
def argSu (c : Dev nD) (j : Fin 14336) : EReal := m ((c : Thread nD τ).loc main_arg2) (ix1 j)
/-- The bias. -/
def argB (c : Dev nD) (j : Fin 14336) : EReal := m ((c : Thread nD τ).loc main_arg3) (ix1 j)
/-- The packed down-projection. -/
def argW (c : Dev nD) (j : Fin 14336) (p : Fin 2048) : BitVec 8 := m ((c : Thread nD τ).loc main_arg4) (ix2 j p)
/-- The down-projection's scales. -/
def argSd (c : Dev nD) (n : Fin 4096) : EReal := m ((c : Thread nD τ).loc main_arg5) (ix1 n)

/-! ## The unpacked weights -/

/-- Masking four bits and taking 16 off the upper half of their range gives their signed value. -/
theorem low_eq : ∀ w : BitVec 8, Scalar.select (IntOp.cmpi .sge (IntOp.andi (BitVec.setWidth 32 w) 15#32) 8#32)
    (IntOp.subi (IntOp.andi (BitVec.setWidth 32 w) 15#32) 16#32) (IntOp.andi (BitVec.setWidth 32 w) 15#32) = lowNibble w := by
  decide +kernel

/-- So does shifting out the other four. -/
theorem high_eq : ∀ w : BitVec 8, Scalar.select (IntOp.cmpi .sge (IntOp.shrsi .host (BitVec.setWidth 32 w) 4#32) 8#32)
    (IntOp.subi (IntOp.shrsi .host (BitVec.setWidth 32 w) 4#32) 16#32) (IntOp.shrsi .host (BitVec.setWidth 32 w) 4#32) = highNibble w := by
  decide +kernel

theorem V_35 (c : Dev nD) (j : Fin 14336) (n : Fin 4096) : V m c main_v35 (ix2 j n) = weight (argW m c) j n := by
  unfold V
  simp only [List.flatten_cons, List.flatten_nil, List.append_nil, List.cons_append, List.nil_append]
  after_reads_at
  after_reads_at
  unfold weight
  by_cases h : n.val % 2 = 0
  · rw [dif_pos (by omega), if_pos h]
    exact low_eq _
  · rw [dif_neg (by omega), if_neg h]
    exact high_eq _

/-! ## The exponents -/

theorem zero_eq : Ideal.ofBits .f32 0x00000000#32 = 0 := by simp [Ideal.ofBits, Ideal.ieee, -EReal.coe_mul]
theorem one_eq : Ideal.ofBits .f32 0x3F800000#32 = 1 := by
  simp [Ideal.ofBits, Ideal.ieee, -EReal.coe_mul]
  norm_num [-EReal.coe_mul]

theorem V_16 (c : Dev nD) (r : Fin 32) : V m c main_v16 (ix2 r 0) = logExp (rowMag (argX m c r)) := by
  unfold V
  simp only [List.flatten_cons, List.flatten_nil, List.append_nil, List.cons_append, List.nil_append]
  after_reads_at
  simp only [logExp, rowMag, invMax, zero_eq, one_eq]
  rw [show id (constant (F := Ideal) S_ .f32 0#32) ix0 = Ideal.ofBits .f32 0x00000000#32 from rfl, zero_eq]
  rfl

/-! ## The reshaped arguments -/

theorem V_36 (c : Dev nD) (r : Fin 32) (k : Fin 4096) : V m c main_v36 (ix2 r k) = argX m c r k := by
  unfold V
  simp only [List.flatten_cons, List.flatten_nil, List.append_nil, List.cons_append, List.nil_append]
  after_reads_at
  try rfl

theorem V_37 (c : Dev nD) (j : Fin 14336) : V m c main_v37 (ix2 0 j) = argSu m c j := by
  unfold V
  simp only [List.flatten_cons, List.flatten_nil, List.append_nil, List.cons_append, List.nil_append]
  after_reads_at
  try rfl

theorem V_38 (c : Dev nD) (j : Fin 14336) : V m c main_v38 (ix2 0 j) = argB m c j := by
  unfold V
  simp only [List.flatten_cons, List.flatten_nil, List.append_nil, List.cons_append, List.nil_append]
  after_reads_at
  try rfl

theorem V_39 (c : Dev nD) (n : Fin 4096) : V m c main_v39 (ix2 0 n) = argSd m c n := by
  unfold V
  simp only [List.flatten_cons, List.flatten_nil, List.append_nil, List.cons_append, List.nil_append]
  after_reads_at
  try rfl

end Cert.ReferenceIdeal.Host

end
-- ==== Proof.ReferenceIdeal.Arrays.lean ====
module

public import proofs.«01_k».proof.Proof.ReferenceIdeal.Host

@[expose] public section

set_option maxRecDepth 16384

noncomputable section

/-! # What the reference's arrays hold after its run -/

namespace Cert.ReferenceIdeal.Host

open Idealize.ShloMosaic Idealize.ShloMosaic.TcCoe
open Cert.ReferenceIdeal Cert.ReferenceIdeal.Gen Cert.Quantiser Cert.Values

variable (m : (ℓ : Loc nD τ sig) → Buf (Elt Ideal) ℓ)

/-- The one grid step. -/
def step : Fin cfg0.N := ⟨0, by rw [show cfg0.N = 1 from N_0]; omega⟩

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk_x (c : Dev nD) (t : Fin cfg0.N) (r : Fin 32) (k : Fin 4096) : iblk m c 0 t (ix2 r k) = argX m c r k := by
  rw [← V_36]
  blk_ext [iblk, idx t]

theorem blk_e (c : Dev nD) (t : Fin cfg0.N) (r : Fin 32) : iblk m c 1 t (ix2 r 0) = logExp (rowMag (argX m c r)) := by
  rw [← V_16]
  have h : ∀ X : Vec Ideal S32x1 .f32, ((cfg0.win 1).blk t).view.read (Elt Ideal) X (ix2 r 0) = X (ix2 r 0) := by
    intro X
    blk_ext [idx t]
  exact h (V m c main_v16)

theorem blk_wu (c : Dev nD) (t : Fin cfg0.N) (k : Fin 4096) (j : Fin 14336) : iblk m c 2 t (ix2 k j) = argWu m c k j := by
  unfold argWu
  rw [← V_main_arg1 m c]
  blk_ext [iblk, idx t]

theorem blk_su (c : Dev nD) (t : Fin cfg0.N) (j : Fin 14336) : iblk m c 3 t (ix2 0 j) = argSu m c j := by
  rw [← V_37]
  blk_ext [iblk, idx t]

theorem blk_b (c : Dev nD) (t : Fin cfg0.N) (j : Fin 14336) : iblk m c 4 t (ix2 0 j) = argB m c j := by
  rw [← V_38]
  blk_ext [iblk, idx t]

theorem blk_w (c : Dev nD) (t : Fin cfg0.N) (j : Fin 14336) (n : Fin 4096) : iblk m c 5 t (ix2 j n) = weight (argW m c) j n := by
  rw [← V_35]
  blk_ext [iblk, idx t]

theorem blk_sd (c : Dev nD) (t : Fin cfg0.N) (n : Fin 4096) : iblk m c 6 t (ix2 0 n) = argSd m c n := by
  rw [← V_39]
  blk_ext [iblk, idx t]

/-! ## The body's results at an index -/

theorem pay4_apply (e : Vec Ideal S32x1 .f32) (x : Vec Ideal S32x4096 .bf16) (r : Fin 32) (k : Fin 4096) :
    k0_pay4 (F := Ideal) e x (ix2 r k) = clip (x (ix2 r k) * Ideal.exp2 (Ideal.ofBits .f32 0x00000000#32 - e (ix2 r 0))) := by
  unfold k0_pay4 k0_pay2
  pointwise
  rfl

theorem pay1_apply (e : Vec Ideal S32x1 .f32) (r : Fin 32) (l : Fin 128) :
    k0_pay1 (k0_pay3 (F := Ideal) e) (ix2 r l) = Ideal.exp2 (e (ix2 r 0)) := by
  unfold k0_pay1 k0_pay3 k0_pay2
  pointwise
  rfl

theorem pay5_apply (e : Vec Ideal S32x1 .f32) (x : Vec Ideal S32x4096 .bf16) (wu : Vec Ideal S4096x14336 .fp8e4m3) (su b : Vec Ideal S1x14336 .f32)
    (r : Fin 32) (j : Fin 14336) :
    k0_pay5 (F := Ideal) e x wu su b (ix2 r j)
      = max ((∑ k, k0_pay4 (F := Ideal) e x (ix2 r k) * wu (ix2 k j)) * Ideal.exp2 (e (ix2 r 0)) * su (ix2 0 j) + b (ix2 0 j)) (Ideal.ofBits .f32 0x00000000#32) := by
  unfold k0_pay5 k0_pay3 k0_pay2
  pointwise
  rfl

theorem pay6_apply (e : Vec Ideal S32x1 .f32) (x : Vec Ideal S32x4096 .bf16) (wu : Vec Ideal S4096x14336 .fp8e4m3) (su b : Vec Ideal S1x14336 .f32)
    (w : Vec Ideal S14336x4096 .i32) (sd : Vec Ideal S1x4096 .f32) (r : Fin 32) (n : Fin 4096) :
    k0_pay6 (F := Ideal) e x wu su b w sd (ix2 r n)
      = (∑ j, k0_pay5 (F := Ideal) e x wu su b (ix2 r j) * intVal (w (ix2 j n))) * sd (ix2 0 n) := by
  unfold k0_pay6
  pointwise
  rfl

/-! ## The four arrays -/

/-- A row's scale, -/
def scale (a : EReal) : EReal := Ideal.exp2 (logExp a)
/-- and its reciprocal. -/
def invScale (a : EReal) : EReal := Ideal.exp2 (Ideal.ofBits .f32 0x00000000#32 - logExp a)

theorem arr7 (c : Dev nD) : (dats m 0 c).arrAt 7 cfg0.N
    = k0_pay6 (iblk m c 1 step) (iblk m c 0 step) (iblk m c 2 step) (iblk m c 3 step) (iblk m c 4 step) (iblk m c 5 step) (iblk m c 6 step) := by
  refine (dats m 0 c).arrAt_eq_of_after_last 7 step (by decide +kernel) _ fun j => ?_
  blk_simp
  rw [after0_7]
  frame_out

theorem arr8 (c : Dev nD) : (dats m 0 c).arrAt 8 cfg0.N
    = k0_pay5 (iblk m c 1 step) (iblk m c 0 step) (iblk m c 2 step) (iblk m c 3 step) (iblk m c 4 step) := by
  refine (dats m 0 c).arrAt_eq_of_after_last 8 step (by decide +kernel) _ fun j => ?_
  blk_simp
  rw [after0_8]
  frame_out

theorem arr9 (c : Dev nD) : (dats m 0 c).arrAt 9 cfg0.N = k0_pay4 (iblk m c 1 step) (iblk m c 0 step) := by
  refine (dats m 0 c).arrAt_eq_of_after_last 9 step (by decide +kernel) _ fun j => ?_
  blk_simp
  rw [after0_9]
  frame_out

theorem arr10 (c : Dev nD) : (dats m 0 c).arrAt 10 cfg0.N = k0_pay1 (k0_pay3 (iblk m c 1 step)) := by
  refine (dats m 0 c).arrAt_eq_of_after_last 10 step (by decide +kernel) _ fun j => ?_
  blk_simp
  rw [after0_10]
  frame_out

/-- The codes. -/
theorem codes_apply (c : Dev nD) (r : Fin 32) (k : Fin 4096) :
    k0_pay4 (iblk m c 1 step) (iblk m c 0 step) (ix2 r k) = code invScale (argX m c) r k := by
  rw [pay4_apply, blk_e, blk_x]
  rfl

/-- The hidden units. -/
theorem hidden_apply (c : Dev nD) (r : Fin 32) (j : Fin 14336) :
    k0_pay5 (iblk m c 1 step) (iblk m c 0 step) (iblk m c 2 step) (iblk m c 3 step) (iblk m c 4 step) (ix2 r j)
      = hidden scale invScale (argX m c) (argWu m c) (argSu m c) (argB m c) r j := by
  rw [pay5_apply, blk_e, blk_su, blk_b]
  simp only [codes_apply, blk_wu]
  rfl

theorem final7 (c : Dev nD) (r : Fin 32) (n : Fin 4096) :
    (dats m 0 c).arrAt 7 cfg0.N (ix2 r n)
      = output scale invScale (argX m c) (argWu m c) (argSu m c) (argB m c) (argW m c) (argSd m c) r n := by
  rw [arr7, pay6_apply, blk_sd]
  simp only [hidden_apply, blk_w]
  rfl

theorem final8 (c : Dev nD) (r : Fin 32) (j : Fin 14336) :
    (dats m 0 c).arrAt 8 cfg0.N (ix2 r j) = hidden scale invScale (argX m c) (argWu m c) (argSu m c) (argB m c) r j := by
  rw [arr8, hidden_apply]

theorem final9 (c : Dev nD) (r : Fin 32) (k : Fin 4096) :
    (dats m 0 c).arrAt 9 cfg0.N (ix2 r k) = code invScale (argX m c) r k := by
  rw [arr9, codes_apply]

theorem final10 (c : Dev nD) (r : Fin 32) (l : Fin 128) :
    (dats m 0 c).arrAt 10 cfg0.N (ix2 r l) = scale (rowMag (argX m c r)) := by
  rw [arr10, pay1_apply, blk_e]
  rfl

end Cert.ReferenceIdeal.Host

end
-- ==== Proof.Equation.lean ====
module

public import proofs.«01_k».proof.Defs
public import proofs.«01_k».proof.Proof.Precondition
public import proofs.«01_k».proof.Proof.KernelIdeal.Arrays
public import proofs.«01_k».proof.Proof.ReferenceIdeal.Arrays
public import Idealize.ShloMosaic.Lib.Claim

@[expose] public section

set_option maxRecDepth 16384

noncomputable section

/-! # The kernel's four arrays are the reference's -/

namespace Cert.Equation

open Idealize.ShloMosaic Idealize.ShloMosaic.TcCoe Idealize.SL.Sem
open Cert.Quantiser Cert.Values

/-- The kernel's memory. -/
abbrev KMem := (ℓ : Loc Cert.KernelIdeal.nD Cert.KernelIdeal.τ Cert.KernelIdeal.sig) → Buf (Elt Ideal) ℓ
/-- The reference's memory. -/
abbrev RMem := (ℓ : Loc Cert.ReferenceIdeal.nD Cert.ReferenceIdeal.τ Cert.ReferenceIdeal.sig) → Buf (Elt Ideal) ℓ

/-- The two programs are given the same arguments. -/
def SameArgs (m : KMem) (m' : RMem) : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-! ## The two scales agree on a magnitude in range -/

theorem scale_agree {a : EReal} (h : InRange a) : Cert.KernelIdeal.Body.scale a = Cert.ReferenceIdeal.Host.scale a := (scale_eq a h).1

theorem invScale_agree {a : EReal} (h : InRange a) : Cert.KernelIdeal.Body.invScale a = Cert.ReferenceIdeal.Host.invScale a := (scale_eq a h).2

section
variable {m : KMem} {m' : RMem}

theorem inRange [Cert.Pre_rows_in_range.Facts] (h : Cert.Pre_KernelIdeal_rows_in_range m) (c : Dev Cert.KernelIdeal.nD) (r : Fin 32) :
    InRange (rowMag (Cert.KernelIdeal.Body.argX m c r)) :=
  Cert.Precondition.inRange _ _ _ _ _ _ (h c) r

/-! ## The same arguments, by coordinates -/

theorem argX_eq (h : SameArgs m m') (c : Dev Cert.KernelIdeal.nD) : Cert.ReferenceIdeal.Host.argX m' c = Cert.KernelIdeal.Body.argX m c := by
  funext r k; exact congrFun (h c).1 _

theorem argWu_eq (h : SameArgs m m') (c : Dev Cert.KernelIdeal.nD) : Cert.ReferenceIdeal.Host.argWu m' c = Cert.KernelIdeal.Body.argWu m c := by
  funext k j; exact congrFun (h c).2.1 _

theorem argSu_eq (h : SameArgs m m') (c : Dev Cert.KernelIdeal.nD) : Cert.ReferenceIdeal.Host.argSu m' c = Cert.KernelIdeal.Body.argSu m c := by
  funext j; exact congrFun (h c).2.2.1 _

theorem argB_eq (h : SameArgs m m') (c : Dev Cert.KernelIdeal.nD) : Cert.ReferenceIdeal.Host.argB m' c = Cert.KernelIdeal.Body.argB m c := by
  funext j; exact congrFun (h c).2.2.2.1 _

theorem argW_eq (h : SameArgs m m') (c : Dev Cert.KernelIdeal.nD) : Cert.ReferenceIdeal.Host.argW m' c = Cert.KernelIdeal.Body.argW m c := by
  funext j p; exact congrFun (h c).2.2.2.2.1 _

theorem argSd_eq (h : SameArgs m m') (c : Dev Cert.KernelIdeal.nD) : Cert.ReferenceIdeal.Host.argSd m' c = Cert.KernelIdeal.Body.argSd m c := by
  funext n; exact congrFun (h c).2.2.2.2.2 _

end

/-- Two matrices equal at every pair of coordinates are equal. -/
theorem ext2 {n k : ℕ} {α : Type} {f g : (⟨2, ![n, k]⟩ : Shape).Idx → α} (h : ∀ (r : Fin n) (l : Fin k), f (ix2 r l) = g (ix2 r l)) : f = g := by
  funext i
  have : i = ix2 (i 0) (i 1) := by funext a; match a with | ⟨0, _⟩ => rfl | ⟨1, _⟩ => rfl
  rw [this]; exact h _ _

/-! ## The arrays -/

section
variable [Cert.Pre_rows_in_range.Facts] {m : KMem} {m' : RMem} (hp : Cert.Pre_KernelIdeal_rows_in_range m) (h : SameArgs m m') (c : Dev Cert.KernelIdeal.nD)
include hp h

/-- The layer's result. -/
theorem y_eq : (Cert.ReferenceIdeal.Gen.dats m' 0 c).arrAt 7 Cert.ReferenceIdeal.cfg0.N = (Cert.KernelIdeal.Body.dats m 0 c).arrAt 6 Cert.KernelIdeal.cfg0.N := by
  refine ext2 (n := 32) (k := 4096) fun r n => ?_
  rw [Cert.ReferenceIdeal.Host.final7, Cert.KernelIdeal.Body.final6, argX_eq h, argWu_eq h, argSu_eq h, argB_eq h, argW_eq h, argSd_eq h]
  exact (output_congr (fun r => scale_agree (inRange hp c r)) (fun r => invScale_agree (inRange hp c r)) _ _ _ _ _ _ _).symm

/-- The hidden units. -/
theorem h_eq : (Cert.ReferenceIdeal.Gen.dats m' 0 c).arrAt 8 Cert.ReferenceIdeal.cfg0.N = (Cert.KernelIdeal.Body.dats m 0 c).arrAt 7 Cert.KernelIdeal.cfg0.N := by
  refine ext2 (n := 32) (k := 14336) fun r n => ?_
  rw [Cert.ReferenceIdeal.Host.final8, Cert.KernelIdeal.Body.final7, argX_eq h, argWu_eq h, argSu_eq h, argB_eq h]
  exact (hidden_congr (fun r => scale_agree (inRange hp c r)) (fun r => invScale_agree (inRange hp c r)) _ _ _ _ _).symm

/-- The activations' codes. -/
theorem code_eq : (Cert.ReferenceIdeal.Gen.dats m' 0 c).arrAt 9 Cert.ReferenceIdeal.cfg0.N = (Cert.KernelIdeal.Body.dats m 0 c).arrAt 8 Cert.KernelIdeal.cfg0.N := by
  refine ext2 (n := 32) (k := 4096) fun r k => ?_
  rw [Cert.ReferenceIdeal.Host.final9, Cert.KernelIdeal.Body.final8, argX_eq h]
  exact (code_congr (fun r => invScale_agree (inRange hp c r)) _ _).symm

/-- The activations' scales. -/
theorem scale_arr_eq : (Cert.ReferenceIdeal.Gen.dats m' 0 c).arrAt 10 Cert.ReferenceIdeal.cfg0.N = (Cert.KernelIdeal.Body.dats m 0 c).arrAt 9 Cert.KernelIdeal.cfg0.N := by
  refine ext2 (n := 32) (k := 128) fun r l => ?_
  rw [Cert.ReferenceIdeal.Host.final10, Cert.KernelIdeal.Body.final9, argX_eq h]
  exact (scale_agree (inRange hp c r)).symm

end

/-! ## The runs -/

/-- The kernel's run, its four arrays named. -/
theorem kernel_run (m : KMem) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4_0) = (Cert.KernelIdeal.Body.dats m 0 c).arrAt 6 Cert.KernelIdeal.cfg0.N
      ∧ r.2.mem ((c.tc : Thread Cert.KernelIdeal.nD Cert.KernelIdeal.τ).loc Cert.KernelIdeal.main_v4_1) = (Cert.KernelIdeal.Body.dats m 0 c).arrAt 7 Cert.KernelIdeal.cfg0.N
      ∧ r.2.mem ((c.tc : Thread Cert.KernelIdeal.nD Cert.KernelIdeal.τ).loc Cert.KernelIdeal.main_v4_2) = (Cert.KernelIdeal.Body.dats m 0 c).arrAt 8 Cert.KernelIdeal.cfg0.N
      ∧ r.2.mem ((c.tc : Thread Cert.KernelIdeal.nD Cert.KernelIdeal.τ).loc Cert.KernelIdeal.main_v4_3) = (Cert.KernelIdeal.Body.dats m 0 c).arrAt 9 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run _ _ _).mono (fun _ h c => ⟨(h.1 c).1 6, (h.1 c).1 7, (h.1 c).1 8, (h.1 c).1 9, h.2 c⟩)
    (θ_run_and (Cert.KernelIdeal.Body.run m ρ) (Cert.KernelIdeal.Body.unchanged m ρ))

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Frame
public import proofs.«01_k».proof.Proof.KernelIdeal.Frame
public import proofs.«01_k».proof.Proof.Gen.ReferenceIdeal.Frame
public import proofs.«01_k».proof.Proof.Gen.ReferenceIdeal.Value
public import proofs.«01_k».proof.Proof.Equation

@[expose] public section

noncomputable section

namespace Cert.Proof

open Idealize.ShloMosaic Idealize.SL.Sem

attribute [local instance] Cert.Precondition.facts

/-- From the same arguments, with every row's magnitude in range, kernel and reference end with the same four arrays. -/
theorem algebraic : Cert.algebraic_KernelIdeal_ReferenceIdeal_pre_rows_in_range := by
  intro m g m' g' hp h
  refine ⟨_, _, _, _, Cert.Equation.kernel_run m g, ?_⟩
  refine (θ_run _ _ _).mono (fun r hr c => ?_) (Cert.ReferenceIdeal.Value.run_blocks m' g')
  obtain ⟨h0, h1, h2, h3, hargs⟩ := hr c
  exact ⟨h0.trans (Cert.Equation.y_eq hp h c), h1.trans (Cert.Equation.h_eq hp h c),
    h2.trans (Cert.Equation.code_eq hp h c), h3.trans (Cert.Equation.scale_arr_eq hp h c), hargs⟩

theorem claim : Cert.Claim := ⟨Cert.Kernel.Gen.facts, Cert.KernelIdeal.Gen.facts, Cert.ReferenceIdeal.Gen.facts, Cert.Precondition.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Gen.frame m ρ,
  fun m ρ _ => Cert.ReferenceIdeal.Gen.frame m ρ,
  trivial,
  algebraic⟩

end Cert.Proof

end
